-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x4096 : Shape := ⟨2, ![16, 4096]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S16x4096 32) (main_arg1 : IVec S16 32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 4096#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16x4096 : Shape := ⟨2, ![16, 4096]⟩
abbrev S16 : Shape := ⟨1, ![16]⟩
abbrev S16x4104 : Shape := ⟨2, ![16, 4104]⟩
abbrev S4104 : Shape := ⟨1, ![4104]⟩
abbrev S2048 : Shape := ⟨1, ![2048]⟩
abbrev S_ : Shape := ⟨0, ![]⟩
abbrev S1x4104 : Shape := ⟨2, ![1, 4104]⟩
abbrev S1x2048 : Shape := ⟨2, ![1, 2048]⟩

abbrev nBuf : Table → Nat
  | .hbm => 5
  | .local .scVector .vmem => 5
  | _ => 0

abbrev bufTy : (tb : Table) → Fin (nBuf tb) → BufTy
  | .hbm, ⟨0, _⟩ => ⟨S16x4096, .i32⟩
  | .hbm, ⟨1, _⟩ => ⟨S16, .i32⟩
  | .hbm, ⟨2, _⟩ => ⟨S16x4096, .i32⟩
  | .hbm, ⟨3, _⟩ => ⟨S16x4104, .i32⟩
  | .hbm, ⟨4, _⟩ => ⟨S16x4096, .i32⟩
  | .local .scVector .vmem, ⟨0, _⟩ => ⟨S16, .i32⟩
  | .local .scVector .vmem, ⟨1, _⟩ => ⟨S4104, .i32⟩
  | .local .scVector .vmem, ⟨2, _⟩ => ⟨S2048, .i32⟩
  | .local .scVector .vmem, ⟨3, _⟩ => ⟨S2048, .i32⟩
  | .local .scVector .vmem, ⟨4, _⟩ => ⟨S2048, .i32⟩
  | _, _ => ⟨S16x4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_c_scv : Ref sig .scVector := ⟨.hbm, 2, rfl⟩
abbrev main_c_0_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_15_r1 : BitVec 32 := 0#32
  ![v18.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  ![v18.toNat, v29.toNat]

def k0_chk1 (v30 : IVec S16 32) : Prop :=
  (∀ a x, ((![v30] : Fin 1 → IVec S16 32) a x).toNat < S16.size a)
theorem k0_idx1_inb : ∀ (v30 : IVec S16 32) (k0_hw1 : k0_chk1 v30), ∀ a x, ((![v30] : Fin 1 → IVec S16 32) a x).toNat < S16.size a := fun v30 k0_hw1 => k0_hw1

def k0_chk2 (v31 : IVec S16 32) : Prop :=
  (∀ a x, ((![v31] : Fin 1 → IVec S16 32) a x).toNat < S4104.size a)
theorem k0_idx2_inb : ∀ (v31 : IVec S16 32) (k0_hw2 : k0_chk2 v31), ∀ a x, ((![v31] : Fin 1 → IVec S16 32) a x).toNat < S4104.size a := fun v31 k0_hw2 => k0_hw2
@[reducible] def k0_t1_loop : Scf.Loop 32 :=
  let c0_i32_12 : BitVec 32 := 0#32
  let c128_i32 : BitVec 32 := 128#32
  let v35 : BitVec 32 := Scalar.addi c0_i32_12 c128_i32
  let c1_i32_13 : BitVec 32 := 1#32
  ⟨c0_i32_12, v35, c1_i32_13⟩
def k0_off3 (k0_t1 : Fin k0_t1_loop.trips) : Fin 1 → Nat :=
  let c0_i32_12 : BitVec 32 := 0#32
  let c1_i32_13 : BitVec 32 := 1#32
  let arg12 : BitVec 32 := Scf.iv c0_i32_12 c1_i32_13 k0_t1
  let c16_i32 : BitVec 32 := 16#32
  let v36 : BitVec 32 := Scalar.muli arg12 c16_i32
  let v37 : Index := Scalar.indexCast v36
  ![v37.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  ![v18.toNat, v29.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096 : Shape := ⟨2, ![16, 4096]⟩
abbrev S16 : Shape := ⟨1, ![16]⟩
abbrev S_ : Shape := ⟨0, ![]⟩
abbrev S1 : Shape := ⟨1, ![1]⟩
abbrev S2 : Shape := ⟨1, ![2]⟩
abbrev S1x1 : Shape := ⟨2, ![1, 1]⟩
abbrev S4096 : Shape := ⟨1, ![4096]⟩
abbrev S1x4096 : Shape := ⟨2, ![1, 4096]⟩
abbrev S16x1 : Shape := ⟨2, ![16, 1]⟩

abbrev nBuf : Space → Nat
  | .hbm => 307
  | .vmem => 0
  | .smem => 0
  | _ => 0

abbrev hbmTy0_0 (i : Nat) : BufTy := match i % 128 with
  | 0 => ⟨S16x4096, .i32⟩
  | 1 => ⟨S16, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S16x4096, .i64⟩
  | 23 => ⟨S16x4096, .i64⟩
  | 24 => ⟨S_, .i64⟩
  | 25 => ⟨S16x4096, .i64⟩
  | 26 => ⟨S16x4096, .i64⟩
  | 27 => ⟨S_, .i64⟩
  | 28 => ⟨S16x4096, .i64⟩
  | 29 => ⟨S16x4096, .i64⟩
  | 30 => ⟨S16x4096, .i64⟩
  | 31 => ⟨S_, .i64⟩
  | 32 => ⟨S16x4096, .i64⟩
  | 33 => ⟨S16x4096, .i64⟩
  | 34 => ⟨S16x4096, .i32⟩
  | 35 => ⟨S16x4096, .i32⟩
  | 36 => ⟨S_, .i32⟩
  | 37 => ⟨S_, .i32⟩
  | 38 => ⟨S_, .i32⟩
  | 39 => ⟨S16x4096, .i32⟩
  | 40 => ⟨S16x4096, .i32⟩
  | 41 => ⟨S16x4096, .i32⟩
  | 42 => ⟨S16x4096, .i32⟩
  | 43 => ⟨S16x4096, .i32⟩
  | 44 => ⟨S_, .i32⟩
  | 45 => ⟨S16x4096, .i32⟩
  | 46 => ⟨S16x4096, .i32⟩
  | 47 => ⟨S_, .i32⟩
  | 48 => ⟨S16x4096, .i32⟩
  | 49 => ⟨S16x4096, .i32⟩
  | 50 => ⟨S16x4096, .i32⟩
  | 51 => ⟨S16x4096, .i32⟩
  | 52 => ⟨S16x4096, .i32⟩
  | 53 => ⟨S_, .i32⟩
  | 54 => ⟨S16x4096, .i32⟩
  | 55 => ⟨S16x4096, .i32⟩
  | 56 => ⟨S_, .i32⟩
  | 57 => ⟨S16x4096, .i32⟩
  | 58 => ⟨S16x4096, .i32⟩
  | 59 => ⟨S16x4096, .i32⟩
  | 60 => ⟨S16x4096, .i32⟩
  | 61 => ⟨S16x4096, .i32⟩
  | 62 => ⟨S_, .i32⟩
  | 63 => ⟨S16x4096, .i32⟩
  | 64 => ⟨S16x4096, .i32⟩
  | 65 => ⟨S_, .i32⟩
  | 66 => ⟨S16x4096, .i32⟩
  | 67 => ⟨S16x4096, .i32⟩
  | 68 => ⟨S16x4096, .i32⟩
  | 69 => ⟨S16x4096, .i32⟩
  | 70 => ⟨S16x4096, .i32⟩
  | 71 => ⟨S_, .i32⟩
  | 72 => ⟨S16x4096, .i32⟩
  | 73 => ⟨S16x4096, .i32⟩
  | 74 => ⟨S_, .i32⟩
  | 75 => ⟨S16x4096, .i32⟩
  | 76 => ⟨S16x4096, .i32⟩
  | 77 => ⟨S16x4096, .i32⟩
  | 78 => ⟨S16x4096, .i32⟩
  | 79 => ⟨S16x4096, .i32⟩
  | 80 => ⟨S16x4096, .i32⟩
  | 81 => ⟨S16x4096, .i32⟩
  | 82 => ⟨S16x4096, .i32⟩
  | 83 => ⟨S_, .i32⟩
  | 84 => ⟨S16x4096, .i32⟩
  | 85 => ⟨S16x4096, .i32⟩
  | 86 => ⟨S16x4096, .i32⟩
  | 87 => ⟨S_, .i32⟩
  | 88 => ⟨S16x4096, .i32⟩
  | 89 => ⟨S16x4096, .i32⟩
  | 90 => ⟨S_, .i32⟩
  | 91 => ⟨S16x4096, .i32⟩
  | 92 => ⟨S16x4096, .i32⟩
  | 93 => ⟨S16x4096, .i32⟩
  | 94 => ⟨S16x4096, .i32⟩
  | 95 => ⟨S16x4096, .i32⟩
  | 96 => ⟨S_, .i32⟩
  | 97 => ⟨S16x4096, .i32⟩
  | 98 => ⟨S16x4096, .i32⟩
  | 99 => ⟨S_, .i32⟩
  | 100 => ⟨S16x4096, .i32⟩
  | 101 => ⟨S16x4096, .i32⟩
  | 102 => ⟨S16x4096, .i32⟩
  | 103 => ⟨S16x4096, .i32⟩
  | 104 => ⟨S16x4096, .i32⟩
  | 105 => ⟨S_, .i32⟩
  | 106 => ⟨S16x4096, .i32⟩
  | 107 => ⟨S16x4096, .i32⟩
  | 108 => ⟨S_, .i32⟩
  | 109 => ⟨S16x4096, .i32⟩
  | 110 => ⟨S16x4096, .i32⟩
  | 111 => ⟨S16x4096, .i32⟩
  | 112 => ⟨S16x4096, .i32⟩
  | 113 => ⟨S16x4096, .i32⟩
  | 114 => ⟨S_, .i32⟩
  | 115 => ⟨S16x4096, .i32⟩
  | 116 => ⟨S16x4096, .i32⟩
  | 117 => ⟨S_, .i32⟩
  | 118 => ⟨S16x4096, .i32⟩
  | 119 => ⟨S16x4096, .i32⟩
  | 120 => ⟨S16x4096, .i32⟩
  | 121 => ⟨S16x4096, .i32⟩
  | 122 => ⟨S16x4096, .i32⟩
  | 123 => ⟨S16x4096, .i32⟩
  | 124 => ⟨S16x4096, .i32⟩
  | 125 => ⟨S16x4096, .i32⟩
  | 126 => ⟨S_, .i32⟩
  | 127 => ⟨S16x4096, .i32⟩
  | _ => ⟨S16x4096, .i32⟩

abbrev hbmTy0_1 (i : Nat) : BufTy := match i % 128 with
  | 0 => ⟨S16x4096, .i32⟩
  | 1 => ⟨S16x4096, .i32⟩
  | 2 => ⟨S_, .i32⟩
  | 3 => ⟨S16x4096, .i32⟩
  | 4 => ⟨S16x4096, .i32⟩
  | 5 => ⟨S_, .i32⟩
  | 6 => ⟨S16x4096, .i32⟩
  | 7 => ⟨S16x4096, .i32⟩
  | 8 => ⟨S16x4096, .i32⟩
  | 9 => ⟨S16x4096, .i32⟩
  | 10 => ⟨S16x4096, .i32⟩
  | 11 => ⟨S_, .i32⟩
  | 12 => ⟨S16x4096, .i32⟩
  | 13 => ⟨S16x4096, .i32⟩
  | 14 => ⟨S_, .i32⟩
  | 15 => ⟨S16x4096, .i32⟩
  | 16 => ⟨S16x4096, .i32⟩
  | 17 => ⟨S16x4096, .i32⟩
  | 18 => ⟨S16x4096, .i32⟩
  | 19 => ⟨S16x4096, .i32⟩
  | 20 => ⟨S_, .i32⟩
  | 21 => ⟨S16x4096, .i32⟩
  | 22 => ⟨S16x4096, .i32⟩
  | 23 => ⟨S_, .i32⟩
  | 24 => ⟨S16x4096, .i32⟩
  | 25 => ⟨S16x4096, .i32⟩
  | 26 => ⟨S16x4096, .i32⟩
  | 27 => ⟨S16x4096, .i32⟩
  | 28 => ⟨S16x4096, .i32⟩
  | 29 => ⟨S_, .i32⟩
  | 30 => ⟨S16x4096, .i32⟩
  | 31 => ⟨S16x4096, .i32⟩
  | 32 => ⟨S_, .i32⟩
  | 33 => ⟨S16x4096, .i32⟩
  | 34 => ⟨S16x4096, .i32⟩
  | 35 => ⟨S16x4096, .i32⟩
  | 36 => ⟨S16x4096, .i32⟩
  | 37 => ⟨S16x4096, .i32⟩
  | 38 => ⟨S16x4096, .i32⟩
  | 39 => ⟨S16x4096, .i32⟩
  | 40 => ⟨S16x4096, .i32⟩
  | 41 => ⟨S_, .i32⟩
  | 42 => ⟨S16x4096, .i32⟩
  | 43 => ⟨S16x4096, .i32⟩
  | 44 => ⟨S16x4096, .i32⟩
  | 45 => ⟨S_, .i32⟩
  | 46 => ⟨S16x4096, .i32⟩
  | 47 => ⟨S16x4096, .i32⟩
  | 48 => ⟨S_, .i32⟩
  | 49 => ⟨S16x4096, .i32⟩
  | 50 => ⟨S16x4096, .i32⟩
  | 51 => ⟨S16x4096, .i32⟩
  | 52 => ⟨S16x4096, .i32⟩
  | 53 => ⟨S16x4096, .i32⟩
  | 54 => ⟨S_, .i32⟩
  | 55 => ⟨S16x4096, .i32⟩
  | 56 => ⟨S16x4096, .i32⟩
  | 57 => ⟨S_, .i32⟩
  | 58 => ⟨S16x4096, .i32⟩
  | 59 => ⟨S16x4096, .i32⟩
  | 60 => ⟨S16x4096, .i32⟩
  | 61 => ⟨S16x4096, .i32⟩
  | 62 => ⟨S16x4096, .i32⟩
  | 63 => ⟨S_, .i32⟩
  | 64 => ⟨S16x4096, .i32⟩
  | 65 => ⟨S16x4096, .i32⟩
  | 66 => ⟨S_, .i32⟩
  | 67 => ⟨S16x4096, .i32⟩
  | 68 => ⟨S16x4096, .i32⟩
  | 69 => ⟨S16x4096, .i32⟩
  | 70 => ⟨S16x4096, .i32⟩
  | 71 => ⟨S16x4096, .i32⟩
  | 72 => ⟨S_, .i32⟩
  | 73 => ⟨S16x4096, .i32⟩
  | 74 => ⟨S16x4096, .i32⟩
  | 75 => ⟨S_, .i32⟩
  | 76 => ⟨S16x4096, .i32⟩
  | 77 => ⟨S16x4096, .i32⟩
  | 78 => ⟨S16x4096, .i32⟩
  | 79 => ⟨S16x4096, .i32⟩
  | 80 => ⟨S16x4096, .i32⟩
  | 81 => ⟨S16x4096, .i32⟩
  | 82 => ⟨S16x4096, .i32⟩
  | 83 => ⟨S16x4096, .i32⟩
  | 84 => ⟨S_, .i32⟩
  | 85 => ⟨S16x4096, .i32⟩
  | 86 => ⟨S16x4096, .i32⟩
  | 87 => ⟨S16x4096, .i32⟩
  | 88 => ⟨S_, .i32⟩
  | 89 => ⟨S16x4096, .i32⟩
  | 90 => ⟨S16x4096, .i32⟩
  | 91 => ⟨S_, .i32⟩
  | 92 => ⟨S16x4096, .i32⟩
  | 93 => ⟨S16x4096, .i32⟩
  | 94 => ⟨S16x4096, .i32⟩
  | 95 => ⟨S16x4096, .i32⟩
  | 96 => ⟨S16x4096, .i32⟩
  | 97 => ⟨S_, .i32⟩
  | 98 => ⟨S16x4096, .i32⟩
  | 99 => ⟨S16x4096, .i32⟩
  | 100 => ⟨S_, .i32⟩
  | 101 => ⟨S16x4096, .i32⟩
  | 102 => ⟨S16x4096, .i32⟩
  | 103 => ⟨S16x4096, .i32⟩
  | 104 => ⟨S16x4096, .i32⟩
  | 105 => ⟨S16x4096, .i32⟩
  | 106 => ⟨S_, .i32⟩
  | 107 => ⟨S16x4096, .i32⟩
  | 108 => ⟨S16x4096, .i32⟩
  | 109 => ⟨S_, .i32⟩
  | 110 => ⟨S16x4096, .i32⟩
  | 111 => ⟨S16x4096, .i32⟩
  | 112 => ⟨S16x4096, .i32⟩
  | 113 => ⟨S16x4096, .i32⟩
  | 114 => ⟨S16x4096, .i32⟩
  | 115 => ⟨S_, .i32⟩
  | 116 => ⟨S16x4096, .i32⟩
  | 117 => ⟨S16x4096, .i32⟩
  | 118 => ⟨S_, .i32⟩
  | 119 => ⟨S16x4096, .i32⟩
  | 120 => ⟨S16x4096, .i32⟩
  | 121 => ⟨S16x4096, .i32⟩
  | 122 => ⟨S16x4096, .i32⟩
  | 123 => ⟨S16x4096, .i32⟩
  | 124 => ⟨S16x4096, .i32⟩
  | 125 => ⟨S16x4096, .i32⟩
  | 126 => ⟨S16x4096, .i32⟩
  | 127 => ⟨S_, .i32⟩
  | _ => ⟨S16x4096, .i32⟩

abbrev hbmTy0_2 (i : Nat) : BufTy := match i % 128 with
  | 0 => ⟨S16x4096, .i32⟩
  | 1 => ⟨S16x4096, .i32⟩
  | 2 => ⟨S16x4096, .i32⟩
  | 3 => ⟨S_, .i32⟩
  | 4 => ⟨S16x4096, .i32⟩
  | 5 => ⟨S16x4096, .i32⟩
  | 6 => ⟨S_, .i32⟩
  | 7 => ⟨S16x4096, .i32⟩
  | 8 => ⟨S16x4096, .i32⟩
  | 9 => ⟨S16x4096, .f32⟩
  | 10 => ⟨S_, .f32⟩
  | 11 => ⟨S16x4096, .f32⟩
  | 12 => ⟨S16x4096, .f32⟩
  | 13 => ⟨S1x1, .f32⟩
  | 14 => ⟨S16x4096, .f32⟩
  | 15 => ⟨S16x4096, .f32⟩
  | 16 => ⟨S16x4096, .f32⟩
  | 17 => ⟨S16x4096, .f32⟩
  | 18 => ⟨S16x4096, .f32⟩
  | 19 => ⟨S16x4096, .f32⟩
  | 20 => ⟨S4096, .i32⟩
  | 21 => ⟨S1x4096, .i32⟩
  | 22 => ⟨S16x1, .i32⟩
  | 23 => ⟨S16x4096, .i32⟩
  | 24 => ⟨S16x4096, .i32⟩
  | 25 => ⟨S16x4096, .i1⟩
  | 26 => ⟨S_, .f32⟩
  | 27 => ⟨S_, .f32⟩
  | 28 => ⟨S16x4096, .f32⟩
  | 29 => ⟨S16x4096, .f32⟩
  | 30 => ⟨S16x4096, .f32⟩
  | 31 => ⟨S16x4096, .i32⟩
  | 32 => ⟨S16x4096, .f32⟩
  | 33 => ⟨S16x4096, .i32⟩
  | 34 => ⟨S16x4096, .i32⟩
  | 35 => ⟨S16x4096, .i32⟩
  | 36 => ⟨S16x4096, .i32⟩
  | 37 => ⟨S_, .f32⟩
  | 38 => ⟨S_, .f32⟩
  | 39 => ⟨S_, .f32⟩
  | 40 => ⟨S16, .f32⟩
  | 41 => ⟨S16, .f32⟩
  | 42 => ⟨S16, .f32⟩
  | 43 => ⟨S16, .f32⟩
  | 44 => ⟨S16, .i32⟩
  | 45 => ⟨S16x1, .i32⟩
  | 46 => ⟨S16x4096, .i32⟩
  | 47 => ⟨S16x4096, .i1⟩
  | 48 => ⟨S_, .i32⟩
  | 49 => ⟨S16x4096, .i32⟩
  | 50 => ⟨S16x4096, .i32⟩
  | _ => ⟨S16x4096, .i32⟩

abbrev hbmTy (i : Nat) : BufTy := match i / 128 with
  | 0 => hbmTy0_0 i
  | 1 => hbmTy0_1 i
  | 2 => hbmTy0_2 i
  | _ => ⟨S16x4096, .i32⟩

abbrev bufTy : (tb : Table) → Fin (tcTables nBuf tb) → BufTy
  | .hbm, ⟨i, _⟩ => hbmTy i
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_c : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_c_1 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_call0_v0 : Ref sig .tc := ⟨.hbm, 36, rfl⟩
abbrev main_call0_call0_c : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_c_0 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_c_1 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_call0_c_2 : Ref sig .tc := ⟨.hbm, 53, rfl⟩
abbrev main_call0_call0_v14 : Ref sig .tc := ⟨.hbm, 54, rfl⟩
abbrev main_call0_call0_v15 : Ref sig .tc := ⟨.hbm, 55, rfl⟩
abbrev main_call0_call0_c_3 : Ref sig .tc := ⟨.hbm, 56, rfl⟩
abbrev main_call0_call0_v16 : Ref sig .tc := ⟨.hbm, 57, rfl⟩
abbrev main_call0_call0_v17 : Ref sig .tc := ⟨.hbm, 58, rfl⟩
abbrev main_call0_call0_v18 : Ref sig .tc := ⟨.hbm, 59, rfl⟩
abbrev main_call0_call0_v19 : Ref sig .tc := ⟨.hbm, 60, rfl⟩
abbrev main_call0_call0_v20 : Ref sig .tc := ⟨.hbm, 61, rfl⟩
abbrev main_call0_call0_c_4 : Ref sig .tc := ⟨.hbm, 62, rfl⟩
abbrev main_call0_call0_v21 : Ref sig .tc := ⟨.hbm, 63, rfl⟩
abbrev main_call0_call0_v22 : Ref sig .tc := ⟨.hbm, 64, rfl⟩
abbrev main_call0_call0_c_5 : Ref sig .tc := ⟨.hbm, 65, rfl⟩
abbrev main_call0_call0_v23 : Ref sig .tc := ⟨.hbm, 66, rfl⟩
abbrev main_call0_call0_v24 : Ref sig .tc := ⟨.hbm, 67, rfl⟩
abbrev main_call0_call0_v25 : Ref sig .tc := ⟨.hbm, 68, rfl⟩
abbrev main_call0_call0_v26 : Ref sig .tc := ⟨.hbm, 69, rfl⟩
abbrev main_call0_call0_v27 : Ref sig .tc := ⟨.hbm, 70, rfl⟩
abbrev main_call0_call0_c_6 : Ref sig .tc := ⟨.hbm, 71, rfl⟩
abbrev main_call0_call0_v28 : Ref sig .tc := ⟨.hbm, 72, rfl⟩
abbrev main_call0_call0_v29 : Ref sig .tc := ⟨.hbm, 73, rfl⟩
abbrev main_call0_call0_c_7 : Ref sig .tc := ⟨.hbm, 74, rfl⟩
abbrev main_call0_call0_v30 : Ref sig .tc := ⟨.hbm, 75, rfl⟩
abbrev main_call0_call0_v31 : Ref sig .tc := ⟨.hbm, 76, rfl⟩
abbrev main_call0_call0_v32 : Ref sig .tc := ⟨.hbm, 77, rfl⟩
abbrev main_call0_call0_v33 : Ref sig .tc := ⟨.hbm, 78, rfl⟩
abbrev main_call0_call0_v34 : Ref sig .tc := ⟨.hbm, 79, rfl⟩
abbrev main_call0_call0_v35 : Ref sig .tc := ⟨.hbm, 80, rfl⟩
abbrev main_call0_call0_v36 : Ref sig .tc := ⟨.hbm, 81, rfl⟩
abbrev main_call0_call0_v37 : Ref sig .tc := ⟨.hbm, 82, rfl⟩
abbrev main_call0_call0_c_8 : Ref sig .tc := ⟨.hbm, 83, rfl⟩
abbrev main_call0_call0_v38 : Ref sig .tc := ⟨.hbm, 84, rfl⟩
abbrev main_call0_call0_v39 : Ref sig .tc := ⟨.hbm, 85, rfl⟩
abbrev main_call0_call0_v40 : Ref sig .tc := ⟨.hbm, 86, rfl⟩
abbrev main_call0_call0_c_9 : Ref sig .tc := ⟨.hbm, 87, rfl⟩
abbrev main_call0_call0_v41 : Ref sig .tc := ⟨.hbm, 88, rfl⟩
abbrev main_call0_call0_v42 : Ref sig .tc := ⟨.hbm, 89, rfl⟩
abbrev main_call0_call0_c_10 : Ref sig .tc := ⟨.hbm, 90, rfl⟩
abbrev main_call0_call0_v43 : Ref sig .tc := ⟨.hbm, 91, rfl⟩
abbrev main_call0_call0_v44 : Ref sig .tc := ⟨.hbm, 92, rfl⟩
abbrev main_call0_call0_v45 : Ref sig .tc := ⟨.hbm, 93, rfl⟩
abbrev main_call0_call0_v46 : Ref sig .tc := ⟨.hbm, 94, rfl⟩
abbrev main_call0_call0_v47 : Ref sig .tc := ⟨.hbm, 95, rfl⟩
abbrev main_call0_call0_c_11 : Ref sig .tc := ⟨.hbm, 96, rfl⟩
abbrev main_call0_call0_v48 : Ref sig .tc := ⟨.hbm, 97, rfl⟩
abbrev main_call0_call0_v49 : Ref sig .tc := ⟨.hbm, 98, rfl⟩
abbrev main_call0_call0_c_12 : Ref sig .tc := ⟨.hbm, 99, rfl⟩
abbrev main_call0_call0_v50 : Ref sig .tc := ⟨.hbm, 100, rfl⟩
abbrev main_call0_call0_v51 : Ref sig .tc := ⟨.hbm, 101, rfl⟩
abbrev main_call0_call0_v52 : Ref sig .tc := ⟨.hbm, 102, rfl⟩
abbrev main_call0_call0_v53 : Ref sig .tc := ⟨.hbm, 103, rfl⟩
abbrev main_call0_call0_v54 : Ref sig .tc := ⟨.hbm, 104, rfl⟩
abbrev main_call0_call0_c_13 : Ref sig .tc := ⟨.hbm, 105, rfl⟩
abbrev main_call0_call0_v55 : Ref sig .tc := ⟨.hbm, 106, rfl⟩
abbrev main_call0_call0_v56 : Ref sig .tc := ⟨.hbm, 107, rfl⟩
abbrev main_call0_call0_c_14 : Ref sig .tc := ⟨.hbm, 108, rfl⟩
abbrev main_call0_call0_v57 : Ref sig .tc := ⟨.hbm, 109, rfl⟩
abbrev main_call0_call0_v58 : Ref sig .tc := ⟨.hbm, 110, rfl⟩
abbrev main_call0_call0_v59 : Ref sig .tc := ⟨.hbm, 111, rfl⟩
abbrev main_call0_call0_v60 : Ref sig .tc := ⟨.hbm, 112, rfl⟩
abbrev main_call0_call0_v61 : Ref sig .tc := ⟨.hbm, 113, rfl⟩
abbrev main_call0_call0_c_15 : Ref sig .tc := ⟨.hbm, 114, rfl⟩
abbrev main_call0_call0_v62 : Ref sig .tc := ⟨.hbm, 115, rfl⟩
abbrev main_call0_call0_v63 : Ref sig .tc := ⟨.hbm, 116, rfl⟩
abbrev main_call0_call0_c_16 : Ref sig .tc := ⟨.hbm, 117, rfl⟩
abbrev main_call0_call0_v64 : Ref sig .tc := ⟨.hbm, 118, rfl⟩
abbrev main_call0_call0_v65 : Ref sig .tc := ⟨.hbm, 119, rfl⟩
abbrev main_call0_call0_v66 : Ref sig .tc := ⟨.hbm, 120, rfl⟩
abbrev main_call0_call0_v67 : Ref sig .tc := ⟨.hbm, 121, rfl⟩
abbrev main_call0_call0_v68 : Ref sig .tc := ⟨.hbm, 122, rfl⟩
abbrev main_call0_call0_v69 : Ref sig .tc := ⟨.hbm, 123, rfl⟩
abbrev main_call0_call0_v70 : Ref sig .tc := ⟨.hbm, 124, rfl⟩
abbrev main_call0_call0_v71 : Ref sig .tc := ⟨.hbm, 125, rfl⟩
abbrev main_call0_call0_c_17 : Ref sig .tc := ⟨.hbm, 126, rfl⟩
abbrev main_call0_call0_v72 : Ref sig .tc := ⟨.hbm, 127, rfl⟩
abbrev main_call0_call0_v73 : Ref sig .tc := ⟨.hbm, 128, rfl⟩
abbrev main_call0_call0_v74 : Ref sig .tc := ⟨.hbm, 129, rfl⟩
abbrev main_call0_call0_c_18 : Ref sig .tc := ⟨.hbm, 130, rfl⟩
abbrev main_call0_call0_v75 : Ref sig .tc := ⟨.hbm, 131, rfl⟩
abbrev main_call0_call0_v76 : Ref sig .tc := ⟨.hbm, 132, rfl⟩
abbrev main_call0_call0_c_19 : Ref sig .tc := ⟨.hbm, 133, rfl⟩
abbrev main_call0_call0_v77 : Ref sig .tc := ⟨.hbm, 134, rfl⟩
abbrev main_call0_call0_v78 : Ref sig .tc := ⟨.hbm, 135, rfl⟩
abbrev main_call0_call0_v79 : Ref sig .tc := ⟨.hbm, 136, rfl⟩
abbrev main_call0_call0_v80 : Ref sig .tc := ⟨.hbm, 137, rfl⟩
abbrev main_call0_call0_v81 : Ref sig .tc := ⟨.hbm, 138, rfl⟩
abbrev main_call0_call0_c_20 : Ref sig .tc := ⟨.hbm, 139, rfl⟩
abbrev main_call0_call0_v82 : Ref sig .tc := ⟨.hbm, 140, rfl⟩
abbrev main_call0_call0_v83 : Ref sig .tc := ⟨.hbm, 141, rfl⟩
abbrev main_call0_call0_c_21 : Ref sig .tc := ⟨.hbm, 142, rfl⟩
abbrev main_call0_call0_v84 : Ref sig .tc := ⟨.hbm, 143, rfl⟩
abbrev main_call0_call0_v85 : Ref sig .tc := ⟨.hbm, 144, rfl⟩
abbrev main_call0_call0_v86 : Ref sig .tc := ⟨.hbm, 145, rfl⟩
abbrev main_call0_call0_v87 : Ref sig .tc := ⟨.hbm, 146, rfl⟩
abbrev main_call0_call0_v88 : Ref sig .tc := ⟨.hbm, 147, rfl⟩
abbrev main_call0_call0_c_22 : Ref sig .tc := ⟨.hbm, 148, rfl⟩
abbrev main_call0_call0_v89 : Ref sig .tc := ⟨.hbm, 149, rfl⟩
abbrev main_call0_call0_v90 : Ref sig .tc := ⟨.hbm, 150, rfl⟩
abbrev main_call0_call0_c_23 : Ref sig .tc := ⟨.hbm, 151, rfl⟩
abbrev main_call0_call0_v91 : Ref sig .tc := ⟨.hbm, 152, rfl⟩
abbrev main_call0_call0_v92 : Ref sig .tc := ⟨.hbm, 153, rfl⟩
abbrev main_call0_call0_v93 : Ref sig .tc := ⟨.hbm, 154, rfl⟩
abbrev main_call0_call0_v94 : Ref sig .tc := ⟨.hbm, 155, rfl⟩
abbrev main_call0_call0_v95 : Ref sig .tc := ⟨.hbm, 156, rfl⟩
abbrev main_call0_call0_c_24 : Ref sig .tc := ⟨.hbm, 157, rfl⟩
abbrev main_call0_call0_v96 : Ref sig .tc := ⟨.hbm, 158, rfl⟩
abbrev main_call0_call0_v97 : Ref sig .tc := ⟨.hbm, 159, rfl⟩
abbrev main_call0_call0_c_25 : Ref sig .tc := ⟨.hbm, 160, rfl⟩
abbrev main_call0_call0_v98 : Ref sig .tc := ⟨.hbm, 161, rfl⟩
abbrev main_call0_call0_v99 : Ref sig .tc := ⟨.hbm, 162, rfl⟩
abbrev main_call0_call0_v100 : Ref sig .tc := ⟨.hbm, 163, rfl⟩
abbrev main_call0_call0_v101 : Ref sig .tc := ⟨.hbm, 164, rfl⟩
abbrev main_call0_call0_v102 : Ref sig .tc := ⟨.hbm, 165, rfl⟩
abbrev main_call0_call0_v103 : Ref sig .tc := ⟨.hbm, 166, rfl⟩
abbrev main_call0_call0_v104 : Ref sig .tc := ⟨.hbm, 167, rfl⟩
abbrev main_call0_call0_v105 : Ref sig .tc := ⟨.hbm, 168, rfl⟩
abbrev main_call0_call0_c_26 : Ref sig .tc := ⟨.hbm, 169, rfl⟩
abbrev main_call0_call0_v106 : Ref sig .tc := ⟨.hbm, 170, rfl⟩
abbrev main_call0_call0_v107 : Ref sig .tc := ⟨.hbm, 171, rfl⟩
abbrev main_call0_call0_v108 : Ref sig .tc := ⟨.hbm, 172, rfl⟩
abbrev main_call0_call0_c_27 : Ref sig .tc := ⟨.hbm, 173, rfl⟩
abbrev main_call0_call0_v109 : Ref sig .tc := ⟨.hbm, 174, rfl⟩
abbrev main_call0_call0_v110 : Ref sig .tc := ⟨.hbm, 175, rfl⟩
abbrev main_call0_call0_c_28 : Ref sig .tc := ⟨.hbm, 176, rfl⟩
abbrev main_call0_call0_v111 : Ref sig .tc := ⟨.hbm, 177, rfl⟩
abbrev main_call0_call0_v112 : Ref sig .tc := ⟨.hbm, 178, rfl⟩
abbrev main_call0_call0_v113 : Ref sig .tc := ⟨.hbm, 179, rfl⟩
abbrev main_call0_call0_v114 : Ref sig .tc := ⟨.hbm, 180, rfl⟩
abbrev main_call0_call0_v115 : Ref sig .tc := ⟨.hbm, 181, rfl⟩
abbrev main_call0_call0_c_29 : Ref sig .tc := ⟨.hbm, 182, rfl⟩
abbrev main_call0_call0_v116 : Ref sig .tc := ⟨.hbm, 183, rfl⟩
abbrev main_call0_call0_v117 : Ref sig .tc := ⟨.hbm, 184, rfl⟩
abbrev main_call0_call0_c_30 : Ref sig .tc := ⟨.hbm, 185, rfl⟩
abbrev main_call0_call0_v118 : Ref sig .tc := ⟨.hbm, 186, rfl⟩
abbrev main_call0_call0_v119 : Ref sig .tc := ⟨.hbm, 187, rfl⟩
abbrev main_call0_call0_v120 : Ref sig .tc := ⟨.hbm, 188, rfl⟩
abbrev main_call0_call0_v121 : Ref sig .tc := ⟨.hbm, 189, rfl⟩
abbrev main_call0_call0_v122 : Ref sig .tc := ⟨.hbm, 190, rfl⟩
abbrev main_call0_call0_c_31 : Ref sig .tc := ⟨.hbm, 191, rfl⟩
abbrev main_call0_call0_v123 : Ref sig .tc := ⟨.hbm, 192, rfl⟩
abbrev main_call0_call0_v124 : Ref sig .tc := ⟨.hbm, 193, rfl⟩
abbrev main_call0_call0_c_32 : Ref sig .tc := ⟨.hbm, 194, rfl⟩
abbrev main_call0_call0_v125 : Ref sig .tc := ⟨.hbm, 195, rfl⟩
abbrev main_call0_call0_v126 : Ref sig .tc := ⟨.hbm, 196, rfl⟩
abbrev main_call0_call0_v127 : Ref sig .tc := ⟨.hbm, 197, rfl⟩
abbrev main_call0_call0_v128 : Ref sig .tc := ⟨.hbm, 198, rfl⟩
abbrev main_call0_call0_v129 : Ref sig .tc := ⟨.hbm, 199, rfl⟩
abbrev main_call0_call0_c_33 : Ref sig .tc := ⟨.hbm, 200, rfl⟩
abbrev main_call0_call0_v130 : Ref sig .tc := ⟨.hbm, 201, rfl⟩
abbrev main_call0_call0_v131 : Ref sig .tc := ⟨.hbm, 202, rfl⟩
abbrev main_call0_call0_c_34 : Ref sig .tc := ⟨.hbm, 203, rfl⟩
abbrev main_call0_call0_v132 : Ref sig .tc := ⟨.hbm, 204, rfl⟩
abbrev main_call0_call0_v133 : Ref sig .tc := ⟨.hbm, 205, rfl⟩
abbrev main_call0_call0_v134 : Ref sig .tc := ⟨.hbm, 206, rfl⟩
abbrev main_call0_call0_v135 : Ref sig .tc := ⟨.hbm, 207, rfl⟩
abbrev main_call0_call0_v136 : Ref sig .tc := ⟨.hbm, 208, rfl⟩
abbrev main_call0_call0_v137 : Ref sig .tc := ⟨.hbm, 209, rfl⟩
abbrev main_call0_call0_v138 : Ref sig .tc := ⟨.hbm, 210, rfl⟩
abbrev main_call0_call0_v139 : Ref sig .tc := ⟨.hbm, 211, rfl⟩
abbrev main_call0_call0_c_35 : Ref sig .tc := ⟨.hbm, 212, rfl⟩
abbrev main_call0_call0_v140 : Ref sig .tc := ⟨.hbm, 213, rfl⟩
abbrev main_call0_call0_v141 : Ref sig .tc := ⟨.hbm, 214, rfl⟩
abbrev main_call0_call0_v142 : Ref sig .tc := ⟨.hbm, 215, rfl⟩
abbrev main_call0_call0_c_36 : Ref sig .tc := ⟨.hbm, 216, rfl⟩
abbrev main_call0_call0_v143 : Ref sig .tc := ⟨.hbm, 217, rfl⟩
abbrev main_call0_call0_v144 : Ref sig .tc := ⟨.hbm, 218, rfl⟩
abbrev main_call0_call0_c_37 : Ref sig .tc := ⟨.hbm, 219, rfl⟩
abbrev main_call0_call0_v145 : Ref sig .tc := ⟨.hbm, 220, rfl⟩
abbrev main_call0_call0_v146 : Ref sig .tc := ⟨.hbm, 221, rfl⟩
abbrev main_call0_call0_v147 : Ref sig .tc := ⟨.hbm, 222, rfl⟩
abbrev main_call0_call0_v148 : Ref sig .tc := ⟨.hbm, 223, rfl⟩
abbrev main_call0_call0_v149 : Ref sig .tc := ⟨.hbm, 224, rfl⟩
abbrev main_call0_call0_c_38 : Ref sig .tc := ⟨.hbm, 225, rfl⟩
abbrev main_call0_call0_v150 : Ref sig .tc := ⟨.hbm, 226, rfl⟩
abbrev main_call0_call0_v151 : Ref sig .tc := ⟨.hbm, 227, rfl⟩
abbrev main_call0_call0_c_39 : Ref sig .tc := ⟨.hbm, 228, rfl⟩
abbrev main_call0_call0_v152 : Ref sig .tc := ⟨.hbm, 229, rfl⟩
abbrev main_call0_call0_v153 : Ref sig .tc := ⟨.hbm, 230, rfl⟩
abbrev main_call0_call0_v154 : Ref sig .tc := ⟨.hbm, 231, rfl⟩
abbrev main_call0_call0_v155 : Ref sig .tc := ⟨.hbm, 232, rfl⟩
abbrev main_call0_call0_v156 : Ref sig .tc := ⟨.hbm, 233, rfl⟩
abbrev main_call0_call0_c_40 : Ref sig .tc := ⟨.hbm, 234, rfl⟩
abbrev main_call0_call0_v157 : Ref sig .tc := ⟨.hbm, 235, rfl⟩
abbrev main_call0_call0_v158 : Ref sig .tc := ⟨.hbm, 236, rfl⟩
abbrev main_call0_call0_c_41 : Ref sig .tc := ⟨.hbm, 237, rfl⟩
abbrev main_call0_call0_v159 : Ref sig .tc := ⟨.hbm, 238, rfl⟩
abbrev main_call0_call0_v160 : Ref sig .tc := ⟨.hbm, 239, rfl⟩
abbrev main_call0_call0_v161 : Ref sig .tc := ⟨.hbm, 240, rfl⟩
abbrev main_call0_call0_v162 : Ref sig .tc := ⟨.hbm, 241, rfl⟩
abbrev main_call0_call0_v163 : Ref sig .tc := ⟨.hbm, 242, rfl⟩
abbrev main_call0_call0_c_42 : Ref sig .tc := ⟨.hbm, 243, rfl⟩
abbrev main_call0_call0_v164 : Ref sig .tc := ⟨.hbm, 244, rfl⟩
abbrev main_call0_call0_v165 : Ref sig .tc := ⟨.hbm, 245, rfl⟩
abbrev main_call0_call0_c_43 : Ref sig .tc := ⟨.hbm, 246, rfl⟩
abbrev main_call0_call0_v166 : Ref sig .tc := ⟨.hbm, 247, rfl⟩
abbrev main_call0_call0_v167 : Ref sig .tc := ⟨.hbm, 248, rfl⟩
abbrev main_call0_call0_v168 : Ref sig .tc := ⟨.hbm, 249, rfl⟩
abbrev main_call0_call0_v169 : Ref sig .tc := ⟨.hbm, 250, rfl⟩
abbrev main_call0_call0_v170 : Ref sig .tc := ⟨.hbm, 251, rfl⟩
abbrev main_call0_v19_0 : Ref sig .tc := ⟨.hbm, 252, rfl⟩
abbrev main_call0_call0_v172 : Ref sig .tc := ⟨.hbm, 253, rfl⟩
abbrev main_call0_call0_v173 : Ref sig .tc := ⟨.hbm, 254, rfl⟩
abbrev main_call0_call0_c_44 : Ref sig .tc := ⟨.hbm, 255, rfl⟩
abbrev main_call0_call0_v174 : Ref sig .tc := ⟨.hbm, 256, rfl⟩
abbrev main_call0_v19_1 : Ref sig .tc := ⟨.hbm, 257, rfl⟩
abbrev main_call0_v20 : Ref sig .tc := ⟨.hbm, 258, rfl⟩
abbrev main_call0_c_2 : Ref sig .tc := ⟨.hbm, 259, rfl⟩
abbrev main_call0_v21 : Ref sig .tc := ⟨.hbm, 260, rfl⟩
abbrev main_call0_v22 : Ref sig .tc := ⟨.hbm, 261, rfl⟩
abbrev main_call0_c_3 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_cst : Ref sig .tc := ⟨.hbm, 266, rfl⟩
abbrev main_call0_v26 : Ref sig .tc := ⟨.hbm, 267, rfl⟩
abbrev main_call0_v27 : Ref sig .tc := ⟨.hbm, 268, rfl⟩
abbrev main_call0_v28 : Ref sig .tc := ⟨.hbm, 269, rfl⟩
abbrev main_call0_v29 : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_v7 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_cst_3 : Ref sig .tc := ⟨.hbm, 282, rfl⟩
abbrev main_call1_v0 : Ref sig .tc := ⟨.hbm, 283, rfl⟩
abbrev main_call1_v1 : Ref sig .tc := ⟨.hbm, 284, rfl⟩
abbrev main_v14 : Ref sig .tc := ⟨.hbm, 285, rfl⟩
abbrev main_v15 : Ref sig .tc := ⟨.hbm, 286, rfl⟩
abbrev main_call2_v0 : Ref sig .tc := ⟨.hbm, 287, rfl⟩
abbrev main_call2_v1_0 : Ref sig .tc := ⟨.hbm, 288, rfl⟩
abbrev main_v16 : Ref sig .tc := ⟨.hbm, 289, rfl⟩
abbrev main_call3_v0 : Ref sig .tc := ⟨.hbm, 290, rfl⟩
abbrev main_call3_v1_0 : Ref sig .tc := ⟨.hbm, 291, rfl⟩
abbrev main_v17 : Ref sig .tc := ⟨.hbm, 292, rfl⟩
abbrev main_cst_4 : Ref sig .tc := ⟨.hbm, 293, rfl⟩
abbrev main_cst_5 : Ref sig .tc := ⟨.hbm, 294, rfl⟩
abbrev main_v18 : Ref sig .tc := ⟨.hbm, 295, rfl⟩
abbrev main_v19 : Ref sig .tc := ⟨.hbm, 296, rfl⟩
abbrev main_v20 : Ref sig .tc := ⟨.hbm, 297, rfl⟩
abbrev main_v21 : Ref sig .tc := ⟨.hbm, 298, rfl⟩
abbrev main_v22 : Ref sig .tc := ⟨.hbm, 299, rfl⟩
abbrev main_v23 : Ref sig .tc := ⟨.hbm, 300, rfl⟩
abbrev main_v24 : Ref sig .tc := ⟨.hbm, 301, rfl⟩
abbrev main_v25 : Ref sig .tc := ⟨.hbm, 302, rfl⟩
abbrev main_v26 : Ref sig .tc := ⟨.hbm, 303, rfl⟩
abbrev main_c_6 : Ref sig .tc := ⟨.hbm, 304, rfl⟩
abbrev main_call4_v0 : Ref sig .tc := ⟨.hbm, 305, rfl⟩
abbrev main_v27 : Ref sig .tc := ⟨.hbm, 306, rfl⟩

abbrev nD : Nat := 1
abbrev τ : Topo := Topo.v7x

variable {F : FTy → Type} [FloatOps F]
-- ==== Proof.Tile.lean ====
/- The kernel's task on one vector subcore, with the values it leaves.
   Subcore `(c, s)` takes columns `2048·c ‥ 2048·c + 2047` of row `s`. It copies the sequence lengths, row `s` of the
   threshold table and its half row of the tokens and of the rank table into its scratch buffers, reads its row's
   length and the threshold at that length, and goes through the half row sixteen lanes at a time: a lane is masked
   where its position is below the length and its rank is at most the threshold. Last it copies the half row out. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev tokLoc (d : Dev nD) : Loc nD τ sig := (SparseCore.T d).loc main_arg0
abbrev lenLoc (d : Dev nD) : Loc nD τ sig := (SparseCore.T d).loc main_arg1
abbrev rkLoc (d : Dev nD) : Loc nD τ sig := (SparseCore.T d).loc main_c
abbrev thLoc (d : Dev nD) : Loc nD τ sig := (SparseCore.T d).loc main_c_0
abbrev outLoc (d : Dev nD) : Loc nD τ sig := (SparseCore.T d).loc main_v0

local notation "tokV" => (Memref.whole main_arg0_scv : Memref sig Kind.scVector Space.hbm S16x4096 EltTy.i32)
local notation "lenV" => (Memref.whole main_arg1_scv : Memref sig Kind.scVector Space.hbm S16 EltTy.i32)
local notation "rkV" => (Memref.whole main_c_scv : Memref sig Kind.scVector Space.hbm S16x4096 EltTy.i32)
local notation "thV" => (Memref.whole main_c_0_scv : Memref sig Kind.scVector Space.hbm S16x4104 EltTy.i32)
local notation "outV" => (Memref.whole main_v0_scv : Memref sig Kind.scVector Space.hbm S16x4096 EltTy.i32)
local notation "slS" => (Memref.whole cc0_scratch0 : Memref sig Kind.scVector Space.vmem S16 EltTy.i32)
local notation "thS" => (Memref.whole cc0_scratch1 : Memref sig Kind.scVector Space.vmem S4104 EltTy.i32)
local notation "tokS" => (Memref.whole cc0_scratch2 : Memref sig Kind.scVector Space.vmem S2048 EltTy.i32)
local notation "rkS" => (Memref.whole cc0_scratch3 : Memref sig Kind.scVector Space.vmem S2048 EltTy.i32)
local notation "outS" => (Memref.whole cc0_scratch4 : Memref sig Kind.scVector Space.vmem S2048 EltTy.i32)

/-- The only index of a rank-one shape at a place. -/
abbrev at1 {n : Nat} (k : Fin n) : (⟨1, ![n]⟩ : Shape).Idx := fun a => k.cast (by cases Fin.eq_zero a; rfl)

/-- The threshold of row `r` at the length word `w`; zero where the word is no column of the table. -/
def thAt (th : S16x4104.Idx → BitVec 32) (r : Fin 16) (w : BitVec 32) : BitVec 32 :=
  if h : w.toNat < 4104 then th (Shape.pair (d := ![16, 4104]) r ⟨w.toNat, h⟩) else 0#32

/-- What the kernel leaves at element `x` of its result, from the tokens, the lengths, the ranks and the thresholds. -/
def outAt (tok : S16x4096.Idx → BitVec 32) (len : S16.Idx → BitVec 32) (rk : S16x4096.Idx → BitVec 32) (th : S16x4104.Idx → BitVec 32)
    (x : S16x4096.Idx) : BitVec 32 :=
  if (BitVec.ofNat 32 (x 1).val).slt (len (at1 (n := 16) (x 0))) ∧ (rk x).sle (thAt th (x 0) (len (at1 (n := 16) (x 0)))) then 50000#32 else tok x

variable [FloatOps F]

/-! ## The task -/

section Tile

variable (d : Dev nD) (L : grid0.Coords)

abbrev cV (L : grid0.Coords) : Fin τ.nSC := (L 0).castLE hcore0
abbrev jV (L : grid0.Coords) : Fin τ.nSub := (L 1).castLE hsub0
abbrev cL (L : grid0.Coords) : Fin 2 := L 0
abbrev jL (L : grid0.Coords) : Fin 16 := L 1
abbrev VT (d : Dev nD) (L : grid0.Coords) : Thread nD τ := V d (cV L) (jV L)

abbrev thRowR (L : grid0.Coords) : Rect S16x4104 := Rect.unit (s := S16x4104) (k0_off1 L) S1x4104.size (k0_off1_inb L)
abbrev halfR (L : grid0.Coords) : Rect S16x4096 := Rect.unit (s := S16x4096) (k0_off2 L) S1x2048.size (k0_off2_inb L)
abbrev outR (L : grid0.Coords) : Rect S16x4096 := Rect.unit (s := S16x4096) (k0_off4 L) S1x2048.size (k0_off4_inb L)
abbrev thRow (L : grid0.Coords) : Memref sig .scVector .hbm S4104 .i32 := ((thV).slice (thRowR L) (fun _ => rfl)).squeeze S4104 squeezes_S1x4104_S4104
abbrev tokHalf (L : grid0.Coords) : Memref sig .scVector .hbm S2048 .i32 := ((tokV).slice (halfR L) (fun _ => rfl)).squeeze S2048 squeezes_S1x2048_S2048
abbrev rkHalf (L : grid0.Coords) : Memref sig .scVector .hbm S2048 .i32 := ((rkV).slice (halfR L) (fun _ => rfl)).squeeze S2048 squeezes_S1x2048_S2048
abbrev outHalf (L : grid0.Coords) : Memref sig .scVector .hbm S2048 .i32 := ((outV).slice (outR L) (fun _ => rfl)).squeeze S2048 squeezes_S1x2048_S2048

omit [FloatOps F] in
theorem off1_eq : ∀ L : grid0.Coords, k0_off1 L = ![(L 1).val, 0] := by decide +kernel
omit [FloatOps F] in
theorem off2_eq : ∀ L : grid0.Coords, k0_off2 L = ![(L 1).val, 2048 * (L 0).val] := by decide +kernel
omit [FloatOps F] in
theorem off4_eq : ∀ L : grid0.Coords, k0_off4 L = ![(L 1).val, 2048 * (L 0).val] := by decide +kernel

/-- The words the task computes first: its row's number and its half row's first column. -/
def rowW (L : grid0.Coords) : BitVec 32 := BitVec.ofNat 32 (L 1).val
def baseW (L : grid0.Coords) : BitVec 32 := BitVec.ofNat 32 (2048 * (L 0).val)

abbrev csem (k : Nat) (hk : k < 5 := by decide) : DmaSem sig := ⟨k, hk⟩
/-- The task's five transfer counters, at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0)

variable (tok : Buf (Elt F) (tokLoc d)) (len : Buf (Elt F) (lenLoc d)) (rk : Buf (Elt F) (rkLoc d)) (th : Buf (Elt F) (thLoc d)) (out0 : Buf (Elt F) (outLoc d))
  (q : PosShare TreeShare)

/-- Column `j` of the half row, as a place in the array. -/
abbrev hIdx (L : grid0.Coords) (j : Fin 2048) : S16x4096.Idx :=
  Shape.pair (d := ![16, 4096]) (L 1) ⟨2048 * (L 0).val + j.val, by
    have h2 : (L 0).val < 2 := (L 0).isLt
    have := j.isLt
    show _ < 4096
    omega⟩

/-- The task's row's length. -/
abbrev lenW : BitVec 32 := (len : S16.Idx → BitVec 32) (at1 (n := 16) (L 1))
/-- The threshold row, as the task's copy of it holds it. -/
abbrev thC : S4104.Idx → BitVec 32 := fun j => (th : S16x4104.Idx → BitVec 32) (Shape.pair (d := ![16, 4104]) (L 1) (j 0))
/-- The half row of an array, as the task's copy of it holds it. -/
abbrev halfC (a : S16x4096.Idx → BitVec 32) : S2048.Idx → BitVec 32 := fun j => a (hIdx L (j 0))

omit [FloatOps F] in
theorem emb_half : ∀ j : S2048.Idx, (outHalf L).view.emb j = hIdx L (j 0) := by
  intro j
  funext a
  show ((outR L).emb (Shape.reshapeEquiv _ j)) a = _
  rw [Shape.reshapeEquiv_cons_one]
  apply Fin.ext
  rw [Rect.emb_apply]
  show k0_off4 L a + 1 * _ = _
  rw [off4_eq]
  fin_cases a
  · show (L 1).val + 1 * 0 = (L 1).val; omega
  · show 2048 * (L 0).val + 1 * (j 0).val = 2048 * (L 0).val + (j 0).val; omega

omit [FloatOps F] in
theorem read_tok : (tokHalf L).view.read (Elt F) tok = halfC L tok := by
  funext j
  show (tok : S16x4096.Idx → BitVec 32) ((tokHalf L).view.emb j) = _
  congr 1
  exact emb_half L j

omit [FloatOps F] in
theorem read_rk : (rkHalf L).view.read (Elt F) rk = halfC L rk := by
  funext j
  show (rk : S16x4096.Idx → BitVec 32) ((rkHalf L).view.emb j) = _
  congr 1
  exact emb_half L j

omit [FloatOps F] in
theorem read_th : (thRow L).view.read (Elt F) th = thC d L th := by
  funext j
  show (th : S16x4104.Idx → BitVec 32) ((thRow L).view.emb j) = _
  congr 1
  funext a
  show ((thRowR L).emb (Shape.reshapeEquiv _ j)) a = _
  rw [Shape.reshapeEquiv_cons_one]
  apply Fin.ext
  rw [Rect.emb_apply]
  show k0_off1 L a + 1 * _ = _
  rw [off1_eq]
  fin_cases a
  · show (L 1).val + 1 * 0 = (L 1).val; omega
  · show 0 + 1 * (j 0).val = (j 0).val; omega

omit [FloatOps F] in
/-- A write of a whole buffer leaves what was written. -/
theorem writes_whole {κ : Kind} (b : Ref sig κ) (f : b.ty.Contents (Elt F)) (x : b.ty.shape.Idx → Elt F b.ty.elt) :
    (Memref.whole b).view.writes (Elt F) f [⟨Rect.whole b.ty.shape, x⟩] = x :=
  View.read_writes_whole (View.whole b) f x

omit [FloatOps F] in
/-- A buffer of the task's held after a write of all of it is held at what was written. -/
theorem pts_writes (b : Ref sig Kind.scVector) (f : b.ty.Contents (Elt F)) (x y : b.ty.shape.Idx → Elt F b.ty.elt) (h : x = y) :
    (((Memref.whole b).view.loc (VT d L) ↦[(Memref.whole b).view.set]{fullShare} ((Memref.whole b).view.writes (Elt F) f [⟨Rect.whole b.ty.shape, x⟩])) : sProp 𝕄)
      ⊢ ((Memref.whole b).view.loc (VT d L) ↦[(Memref.whole b).view.set]{fullShare} y) := by
  rw [writes_whole, h]

/-- Before trip `k` of the loop the half rows are held as copied in and the result's scratch holds the result in its first
    `16·k` places. -/
def inv (k : Nat) (_ : PUnit) : sProp 𝕄 :=
  iprop(((tokS).view.loc (VT d L) ↦[(tokS).view.set]{fullShare} (halfC L tok))
    ∗ ((rkS).view.loc (VT d L) ↦[(rkS).view.set]{fullShare} (halfC L rk))
    ∗ ∃ g, ⌜∀ j : S2048.Idx, (j 0).val < 16 * k → (g : S2048.Idx → BitVec 32) j = outAt tok len rk th (hIdx L (j 0))⌝
        ∗ ((outS).view.loc (VT d L) ↦[(outS).view.set]{fullShare} g))

omit [FloatOps F] in
theorem read_half (f : S16x4096.Idx → BitVec 32) (j : S2048.Idx) :
    (outHalf L).view.read (Elt F) f j = f (hIdx L (j 0)) := by
  show f ((outHalf L).view.emb j) = _
  rw [emb_half]

omit [FloatOps F] in
/-- A write of the whole half row leaves, on the half row, what was written. -/
theorem writes_half (f : S16x4096.Idx → BitVec 32) (w : S2048.Idx → BitVec 32) (G : S16x4096.Idx → BitVec 32) (h : ∀ j : S2048.Idx, w j = G (hIdx L (j 0))) :
    ∀ i ∈ (outHalf L).view.set, ((outHalf L).view.writes (Elt F) f [⟨Rect.whole S2048, w⟩] : S16x4096.Idx → BitVec 32) i = G i := by
  intro i hi
  obtain ⟨j, -, rfl⟩ := Finset.mem_map.mp hi
  have e := congrFun (View.read_writes_whole (Val := Elt F) (outHalf L).view f w) j
  generalize ((outHalf L).view.writes (Elt F) f [⟨Rect.whole S2048, w⟩] : S16x4096.Idx → BitVec 32) = f' at e ⊢
  rw [read_half] at e
  rw [emb_half, e, h]

omit [FloatOps F] in
/-- A lane's choice under the two comparisons. -/
theorem lane_sel (w s r t u v : BitVec 32) :
    Scalar.select (IntOp.andi (IntOp.cmpi .slt w s) (IntOp.cmpi .sle r t)) u v = if w.slt s ∧ r.sle t then u else v := by
  show (if IntOp.andi (BitVec.ofBool (w.slt s)) (BitVec.ofBool (r.sle t)) = 1 then u else v) = _
  cases w.slt s <;> cases r.sle t <;> rfl

set_option maxHeartbeats 400000 in
theorem tile_run (hpre : ∀ i : S16.Idx, ((len : S16.Idx → BitVec 32) i).toNat < 4096) (O : CellTallies nD τ sig (HIx 1)) (W : Waits sig (HIx 1))
    (b0 : Buf (Elt F) ((slS).view.loc (VT d L))) (b1 : Buf (Elt F) ((thS).view.loc (VT d L))) (b2 : Buf (Elt F) ((tokS).view.loc (VT d L)))
    (b3 : Buf (Elt F) ((rkS).view.loc (VT d L))) (b4 : Buf (Elt F) ((outS).view.loc (VT d L))) :
    (iprop(Transfers.MayWaits (VT d L) (default : HIx 1) O
        ∗ ((tokV).view.loc (VT d L) ↦{q} tok)
        ∗ ((lenV).view.loc (VT d L) ↦{q} len)
        ∗ ((rkV).view.loc (VT d L) ↦{q} rk)
        ∗ ((thV).view.loc (VT d L) ↦{q} th)
        ∗ ((outHalf L).view.loc (VT d L) ↦[(outHalf L).view.set]{fullShare} out0)
        ∗ ((slS).view.loc (VT d L) ↦[(slS).view.set]{fullShare} b0)
        ∗ ((thS).view.loc (VT d L) ↦[(thS).view.set]{fullShare} b1)
        ∗ ((tokS).view.loc (VT d L) ↦[(tokS).view.set]{fullShare} b2)
        ∗ ((rkS).view.loc (VT d L) ↦[(rkS).view.set]{fullShare} b3)
        ∗ ((outS).view.loc (VT d L) ↦[(outS).view.set]{fullShare} b4)
        ∗ cells0 d L
        ∗ owes (VT d L) O W) : sProp 𝕄)
      ⊢ wp frame (wpE (defs₀ (F := F)) 𝒱₀ (VT d L) none) Set.univ
          (cc0__sc_mask L tokV (Memref.isWhole_whole _) lenV (Memref.isWhole_whole _) rkV (Memref.isWhole_whole _) thV (Memref.isWhole_whole _)
            outV (Memref.isWhole_whole _) slS (Memref.isWhole_whole _) thS (Memref.isWhole_whole _) tokS (Memref.isWhole_whole _)
            rkS (Memref.isWhole_whole _) outS (Memref.isWhole_whole _) cc0_scoped0 cc0_scoped1 cc0_scoped2 cc0_scoped3 cc0_scoped4)
          fun _ => iprop(((tokV).view.loc (VT d L) ↦{q} tok)
            ∗ ((lenV).view.loc (VT d L) ↦{q} len)
            ∗ ((rkV).view.loc (VT d L) ↦{q} rk)
            ∗ ((thV).view.loc (VT d L) ↦{q} th)
            ∗ ((outHalf L).view.loc (VT d L) ↦[(outHalf L).view.set]{fullShare} (outAt tok len rk th : S16x4096.Idx → BitVec 32))
            ∗ (∃ g, (slS).view.loc (VT d L) ↦[(slS).view.set]{fullShare} g)
            ∗ (∃ g, (thS).view.loc (VT d L) ↦[(thS).view.set]{fullShare} g)
            ∗ (∃ g, (tokS).view.loc (VT d L) ↦[(tokS).view.set]{fullShare} g)
            ∗ (∃ g, (rkS).view.loc (VT d L) ↦[(rkS).view.set]{fullShare} g)
            ∗ (∃ g, (outS).view.loc (VT d L) ↦[(outS).view.set]{fullShare} g)
            ∗ cells0 d L
            ∗ ∃ W', ⌜∀ p ∈ W', p ∈ W ∨ p.2 = none⌝ ∗ owes (VT d L) O W') := by
  iintro ⟨#Hmw, Htok, Hlen, Hrk, Hth, Hout, H0, H1, H2, H3, H4, ⟨Hc0, Hc1, Hc2, Hc3, Hc4⟩, HO⟩
  sl_unfold [cc0__sc_mask]
  sl_exec
  have e30 : ∀ L, tile_run.sl.v30 L = broadcast S16 (rowW L) := by
    intro L; unfold tile_run.sl.v30; congr 1; revert L; decide +kernel
  have hk1 : k0_chk1 (tile_run.sl.v30 L) := by
    rw [e30]; intro a x; fin_cases a
    show (BitVec.ofNat 32 (L 1).val).toNat < 16
    have := (L 1).isLt
    have h16 : grid0.bound 1 = 16 := rfl
    rw [BitVec.toNat_ofNat]; omega
  have e0 : tile_run.sl.dma0 d len = (len : S16.Idx → BitVec 32) := rfl
  have e1 : tile_run.sl.dma0_1 d L th = thC d L th := by
    unfold tile_run.sl.dma0_1; exact read_th d L th
  have e2 : tile_run.sl.dma0_2 d L tok = halfC L tok := by
    unfold tile_run.sl.dma0_2; exact read_tok d L tok
  have e3 : tile_run.sl.dma0_3 d L rk = halfC L rk := by
    unfold tile_run.sl.dma0_3; exact read_rk d L rk
  ihave H0 := (pts_writes d L cc0_scratch0 b0 _ _ e0) $$ H0
  ihave H1 := (pts_writes d L cc0_scratch1 b1 _ _ e1) $$ H1
  ihave H2 := (pts_writes d L cc0_scratch2 b2 _ _ e2) $$ H2
  ihave H3 := (pts_writes d L cc0_scratch3 b3 _ _ e3) $$ H3
  sl_exec (disch := first | sl_exact hk1)
  iapply (SparseCore.wp_vectorLoadIdx 𝒱₀ (VT d L) none Set.univ (base := slS) (S := (slS).view.set) (q := fullShare) (f := len)
    (View.set_slice_subset _ _)) $$ H0; iintro H0
  generalize hv31 : loadIdx (F := F) (s := S16) (t := S16) (e := .i32) _ ![tile_run.sl.v30 L] _ = v31
  have e31 : v31 = broadcast S16 (lenW d L len) := by
    rw [← hv31]; funext x
    show (len : S16.Idx → BitVec 32) _ = (len : S16.Idx → BitVec 32) _
    congr 1
    funext a
    fin_cases a
    apply Fin.ext
    show 0 + 1 * (tile_run.sl.v30 L x).toNat = (L 1).val
    rw [e30]
    show 0 + 1 * (BitVec.ofNat 32 (L 1).val).toNat = _
    have := (L 1).isLt
    have h16 : grid0.bound 1 = 16 := rfl
    rw [BitVec.toNat_ofNat]; omega
  clear hv31
  subst e31
  have hk2 : k0_chk2 (broadcast S16 (lenW d L len)) := by
    intro a x; fin_cases a
    show (lenW d L len).toNat < 4104
    exact lt_trans (hpre _) (by decide)
  sl_exec (disch := first | sl_exact hk2)
  iapply (SparseCore.wp_vectorLoadIdx 𝒱₀ (VT d L) none Set.univ (base := thS) (S := (thS).view.set) (q := fullShare) (f := thC d L th)
    (View.set_slice_subset _ _)) $$ H1; iintro H1
  generalize hv32 : loadIdx (F := F) (s := S4104) (t := S16) (e := .i32) _ ![broadcast S16 (lenW d L len)] _ = v32
  have e32 : v32 = broadcast S16 (thAt th (L 1) (lenW d L len)) := by
    rw [← hv32]; funext x
    unfold thAt
    have hw : (lenW d L len).toNat < 4104 := lt_trans (hpre _) (by decide)
    rw [dif_pos hw]
    show (th : S16x4104.Idx → BitVec 32) (Shape.pair (d := ![16, 4104]) (L 1) _) = _
    show _ = (th : S16x4104.Idx → BitVec 32) (Shape.pair (d := ![16, 4104]) (L 1) _)
    congr 2
    apply Fin.ext
    show 0 + 1 * (lenW d L len).toNat = (lenW d L len).toNat
    omega
  clear hv32
  subst e32
  sl_exec
  sl_for (inv d L tok len rk th) $$ [H2 H3 H4]
  case region =>
    intro k _
    unfold inv
    iintro ⟨H2, H3, %g, %hg, H4⟩
    sl_exec
    sl_step
    have hlane : ∀ x : S16.Idx, ∀ h, tile_run.sl.v47 d L tok len rk th k x = outAt tok len rk th (hIdx L ⟨16 * k.val + (x 0).val, h⟩) := by
      intro x h
      unfold tile_run.sl.v47 tile_run.sl.v46 tile_run.sl.v34 tile_run.sl.v45 tile_run.sl.v44 tile_run.sl.v43 tile_run.sl.v42 tile_run.sl.v41 tile_run.sl.v33 tile_run.sl.v29
      have e28 : ∀ L, Scalar.muli (tile_run.sl.v28 L) 2048#32 = baseW L := by decide +kernel
      have e36 : ∀ k, tile_run.sl.v36 k = BitVec.ofNat 32 (16 * k.val) := by decide +kernel
      have hld : ∀ a : S16x4096.Idx → BitVec 32, halfC L a ((Rect.unit (s := S2048) (k0_off3 k) S16.size (k0_off3_inb k)).toLoadRect.idx x)
          = a (hIdx L ⟨16 * k.val + (x 0).val, h⟩) := by
        intro a
        show a _ = a _
        congr 2
        apply Fin.ext
        show k0_off3 k 0 + 1 * (x 0).val = 16 * k.val + (x 0).val
        rw [k0_off3_eq]
        show 16 * k.val + 1 * (x 0).val = _
        omega
      rw [e28, e36]
      refine (lane_sel _ _ _ _ _ _).trans ?_
      unfold outAt
      rw [← hld rk, ← hld tok]
      have hW : BitVec.ofNat 32 (0 * 16 + (x 0).val) + (baseW L + BitVec.ofNat 32 (16 * k.val)) = BitVec.ofNat 32 (hIdx L ⟨16 * k.val + (x 0).val, h⟩ 1).val := by
        show _ = BitVec.ofNat 32 (2048 * (L 0).val + (16 * k.val + (x 0).val))
        unfold baseW
        rw [← BitVec.ofNat_add, ← BitVec.ofNat_add]
        congr 1; omega
      rw [← hW]
      rfl
    isplitl [H2]; · iexact H2
    isplitl [H3]; · iexact H3
    iexists _; isplitr
    rotate_left
    · iexact H4
    ipureintro
    intro j hj
    rcases Nat.lt_or_ge (j 0).val (16 * k.val) with hlt | hge
    · exact (View.read_writes_cons_unit_of_not_mem (Val := Elt F) (outS).view g (k0_off3_inb k) _ [] j (k0_off3_eq k) 0 (Or.inl hlt)).trans (hg j hlt)
    · have hx : (j 0).val - 16 * k.val < 16 := by omega
      refine (View.read_writes_cons_unit_of_mem (Val := Elt F) (outS).view g (k0_off3_inb k) _ [] j (at1 (n := 16) ⟨(j 0).val - 16 * k.val, hx⟩) (k0_off3_eq k) ?_).trans ?_
      · intro a; fin_cases a
        show (j 0).val = 16 * k.val + ((j 0).val - 16 * k.val)
        omega
      · have hj2 : (j 0).val < 2048 := (j 0).isLt
        refine (hlane _ (by show 16 * k.val + ((j 0).val - 16 * k.val) < 2048; omega)).trans ?_
        congr 2
        apply Fin.ext
        show 16 * k.val + ((j 0).val - 16 * k.val) = (j 0).val
        omega
  · unfold inv
    isplitl [H2]; · iexact H2
    isplitl [H3]; · iexact H3
    iexists b4; isplitr
    · ipureintro; intro j hj; omega
    · iexact H4
  iintro %_ HI
  unfold inv
  icases HI with ⟨H2, H3, %g, %hg, H4⟩
  sl_exec
  sl_step
  have hw4 : ∀ i ∈ (outHalf L).view.set, (outHalf L).view.writes (Elt F) out0 [⟨Rect.whole S2048, tile_run.sl.dma0_4 g⟩] i
      = (outAt tok len rk th : S16x4096.Idx → BitVec 32) i := by
    refine writes_half L out0 _ _ fun j => ?_
    refine (hg j ?_)
    have h2 : (j 0).val < 2048 := (j 0).isLt
    have ht : Scf.trips k0_t1_loop.lb k0_t1_loop.ub k0_t1_loop.st = 128 := by decide +kernel
    rw [ht]; omega
  isplitl [Htok]; · iexact Htok
  isplitl [Hlen]; · iexact Hlen
  isplitl [Hrk]; · iexact Hrk
  isplitl [Hth]; · iexact Hth
  isplitl [Hout]; · iapply (Entails.of_eq (pointsTo_congr hw4)); iexact Hout
  isplitl [H0]; · iexists _; iexact H0
  isplitl [H1]; · iexists _; iexact H1
  isplitl [H2]; · iexists _; iexact H2
  isplitl [H3]; · iexists _; iexact H3
  isplitl [H4]; · iexists _; iexact H4
  isplitl [Hc0 Hc1 Hc2 Hc3 Hc4]
  · isplitl [Hc0]; · iexact Hc0
    isplitl [Hc1]; · iexact Hc1
    isplitl [Hc2]; · iexact Hc2
    isplitl [Hc3]; · iexact Hc3
    iexact Hc4
  iexists _; isplitr
  rotate_left
  · iexact HO
  ipureintro
  intro p hp
  simp only [Finset.mem_insert] at hp
  rcases hp with hp | hp | hp | hp | hp | hp
  · exact .inr (hp ▸ rfl)
  · exact .inr (hp ▸ rfl)
  · exact .inr (hp ▸ rfl)
  · exact .inr (hp ▸ rfl)
  · exact .inr (hp ▸ rfl)
  · exact .inl hp

end Tile

end Cert.Proof.KernelIdeal

end
-- ==== Proof.Launch.lean ====
/- The kernel's launch: the two constant tables written, the thirty-two subcores' tasks run, the result's array holding what
   the tasks leave. Each task is handed a read token of the tokens, the lengths, the ranks and the thresholds, and its
   own half row of the result; what it hands back is the same with the half row at the kernel's values. -/
module

public import proofs.«01_k».proof.Proof.Tile
public import proofs.«01_k».proof.Proof.Gen.Pre_in_range

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "tokV" => (Memref.whole main_arg0_scv : Memref sig Kind.scVector Space.hbm S16x4096 EltTy.i32)
local notation "lenV" => (Memref.whole main_arg1_scv : Memref sig Kind.scVector Space.hbm S16 EltTy.i32)
local notation "rkV" => (Memref.whole main_c_scv : Memref sig Kind.scVector Space.hbm S16x4096 EltTy.i32)
local notation "thV" => (Memref.whole main_c_0_scv : Memref sig Kind.scVector Space.hbm S16x4104 EltTy.i32)
local notation "outV" => (Memref.whole main_v0_scv : Memref sig Kind.scVector Space.hbm S16x4096 EltTy.i32)
local notation "slS" => (Memref.whole cc0_scratch0 : Memref sig Kind.scVector Space.vmem S16 EltTy.i32)
local notation "thS" => (Memref.whole cc0_scratch1 : Memref sig Kind.scVector Space.vmem S4104 EltTy.i32)
local notation "tokS" => (Memref.whole cc0_scratch2 : Memref sig Kind.scVector Space.vmem S2048 EltTy.i32)
local notation "rkS" => (Memref.whole cc0_scratch3 : Memref sig Kind.scVector Space.vmem S2048 EltTy.i32)
local notation "outS" => (Memref.whole cc0_scratch4 : Memref sig Kind.scVector Space.vmem S2048 EltTy.i32)

/-! ## The launch memory -/

variable (m : (ℓ : Loc nD τ sig) → Buf (Elt F) ℓ) (ρ : Dev nD → PrngReg)

/-- The rank table and the threshold table, as the program's constants hold them. -/
def rkT : S16x4096.Idx → BitVec 32 := fun i => lit0 (S16x4096.rowMajor i)
def thT : S16x4104.Idx → BitVec 32 := fun i => lit1 (S16x4104.rowMajor i)

/-- What the kernel leaves in the result's array of device `d`. -/
def outV0 (d : Dev nD) : S16x4096.Idx → BitVec 32 := outAt (m (tokLoc d)) (m (lenLoc d)) rkT thT

def coordsV (c : Fin (grid0.bound 0)) (s : Fin (grid0.bound 1)) : grid0.Coords :=
  fun | 0 => c | 1 => s | ⟨_ + 2, h⟩ => absurd h (Nat.not_lt.2 (Nat.le_add_left _ _))

/-- The task's read share of each array it reads, and the half row of the result it writes. -/
abbrev tokQ (L : grid0.Coords) : PosShare TreeShare := Transfers.shareTokN fullShare (16 * (L 0).val + (L 1).val)
abbrev blk (L : grid0.Coords) : Finset S16x4096.Idx := (outHalf L).view.set

/-- What one task takes and hands back, the result's half row at contents `f`. -/
abbrev piece (d : Dev nD) (L : grid0.Coords) (f : Buf (Elt F) (outLoc d)) : sProp 𝕄 :=
  iprop((tokLoc d ↦{tokQ L} m (tokLoc d)) ∗ (lenLoc d ↦{tokQ L} m (lenLoc d)) ∗ (rkLoc d ↦{tokQ L} (rkT : Buf (Elt F) (rkLoc d)))
    ∗ (thLoc d ↦{tokQ L} (thT : Buf (Elt F) (thLoc d))) ∗ (outLoc d ↦[blk L]{fullShare} f))

/-- The sixteen tasks' pieces of one SparseCore. -/
abbrev core (d : Dev nD) (c : Fin 2) (f : Buf (Elt F) (outLoc d)) : sProp 𝕄 :=
  bigSep Finset.univ fun i : Fin 16 => piece m d (coordsV c i) f

variable [FloatOps F]

def P : (K (F := F)).Pay (nD := nD) (Val := Elt F) (Name := ℕ) (U := UU) where
  st := fun q d c => match q with | 0 => core m d (Fin.cast nCore_zero c) (m (outLoc d))
  dn := fun q d c => match q with | 0 => core m d (Fin.cast nCore_zero c) (outV0 m d)
  go := fun q d c i => match q with | 0 => piece m d (coordsV (Fin.cast nCore_zero c) (Fin.cast nSub_zero i)) (m (outLoc d))
  td := fun q d c i => match q with | 0 => piece m d (coordsV (Fin.cast nCore_zero c) (Fin.cast nSub_zero i)) (outV0 m d)
  x := fun _ _ => iprop(emp)

instance P_storable : (P (F := F) m).IsStorable where
  st q d c := match q with
    | 0 => (inferInstance : BI.Storable (upEmb : UEmb _ 𝕄) (core m d (Fin.cast nCore_zero c) (m (outLoc d))))
  dn q d c := match q with
    | 0 => (inferInstance : BI.Storable (upEmb : UEmb _ 𝕄) (core m d (Fin.cast nCore_zero c) (outV0 m d)))
  go q d c i := match q with
    | 0 => (inferInstance : BI.Storable (upEmb : UEmb _ 𝕄) (piece m d (coordsV (Fin.cast nCore_zero c) (Fin.cast nSub_zero i)) (m (outLoc d))))
  td q d c i := match q with
    | 0 => (inferInstance : BI.Storable (upEmb : UEmb _ 𝕄) (piece m d (coordsV (Fin.cast nCore_zero c) (Fin.cast nSub_zero i)) (outV0 m d)))

/-- What the proof asks of the launch memory: every length is below 4096. -/
def PreOK : Prop := ∀ (d : Dev nD) (j : S16.Idx), ((m (lenLoc d) : S16.Idx → BitVec 32) j).toNat < 4096

/-! ## The task's resources -/

section Body

variable (d : Dev nD) (L : grid0.Coords)

abbrev dcell (d : Dev nD) (c : Fin τ.nSC) (i : Fin τ.nSub) (k : Fin 5) : GSem nD τ sig := (V d c i, .dma (csem k.val k.isLt))

omit [FloatOps F] in
theorem dcell_mem (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

omit [FloatOps F] in
/-- The subcore's own counters at zero: the five the task names, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The five scratch buffers, by number. -/
def scr : Fin 5 → Ref sig .scVector := ![cc0_scratch0, cc0_scratch1, cc0_scratch2, cc0_scratch3, cc0_scratch4]
theorem scr_inj : Function.Injective scr := by decide
abbrev scrD (L : grid0.Coords) (k : Fin 5) : DevRef τ sig := (Proc.scVector (cV L) (jV L)).devRef (scr k)

omit [FloatOps F] in
/-- The subcore's own buffers: the five scratch buffers at some contents, and the rest. -/
theorem ownBufs_V :
    (ownBufs (VT d L) : sProp 𝕄)
      = iprop(((∃ f, (VT d L).loc cc0_scratch0 ↦{fullShare} f) ∗ (∃ f, (VT d L).loc cc0_scratch1 ↦{fullShare} f)
            ∗ (∃ f, (VT d L).loc cc0_scratch2 ↦{fullShare} f) ∗ (∃ f, (VT d L).loc cc0_scratch3 ↦{fullShare} f)
            ∗ (∃ f, (VT d L).loc cc0_scratch4 ↦{fullShare} f))
          ∗ bigSep ((ownRefs (τ := τ) (.scVector (cV L) (jV L))) \ Finset.univ.image (scrD L))
              fun b => iprop(∃ f, ((d, b) : Loc nD τ sig) ↦{fullShare} f)) := by
  unfold SparseCore.Cfg.ownBufs
  rw [SparseCore.bigSep_sdiff_split' (t := Finset.univ.image (scrD L))
      (Finset.image_subset_iff.mpr fun k _ => SparseCore.Cfg.mem_ownRefs_of_owner (p := Proc.scVector (cV L) (jV L)) (by
        fin_cases k <;> rfl)),
    SparseCore.bigSep_image_of_injOn (fun a _ b _ h => scr_inj (Proc.devRef_injective _ h))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

omit [FloatOps F] in
/-- A scratch buffer whole, and the same by its elements. -/
theorem pts_scr (b : Ref sig Kind.scVector) (f : b.ty.Contents (Elt F)) :
    (((Memref.whole b).view.loc (VT d L) ↦[(Memref.whole b).view.set]{fullShare} f) : sProp 𝕄) = (VT d L).loc b ↦{fullShare} f := by
  rw [View.set_whole]

omit [FloatOps F] in
/-- What the task takes or hands back, spelt at the task's own views. -/
theorem piece_eq (f : Buf (Elt F) (outLoc d)) :
    piece m d L f = (iprop(((tokV).view.loc (VT d L) ↦{tokQ L} m (tokLoc d)) ∗ ((lenV).view.loc (VT d L) ↦{tokQ L} m (lenLoc d))
      ∗ ((rkV).view.loc (VT d L) ↦{tokQ L} (rkT : Buf (Elt F) (rkLoc d))) ∗ ((thV).view.loc (VT d L) ↦{tokQ L} (thT : Buf (Elt F) (thLoc d)))
      ∗ ((outHalf L).view.loc (VT d L) ↦[(outHalf L).view.set]{fullShare} f)) : sProp 𝕄) := rfl

/-- One task, from what the launch hands it to what it hands back. -/
theorem tile_body (hF : (K (F := F)).Facts) (hpre : PreOK m) (O : CellTallies nD τ sig (HIx 1)) (W : Waits sig (HIx 1))
    (hO : ∀ g, O g none = 0) :
    iprop(levAts (K (F := F)).L (K (F := F)).lev ∗ emp ∗ piece m d L (m (outLoc d))
        ∗ scopedBufs (VT d L) ∗ scopedSems0 (VT d L) ∗ owes (VT d L) O W)
      ⊢ wp frame (wpE (defs₀ (F := F)) 𝒱₀ (VT d L) none) Set.univ
          (cc0__sc_mask L tokV (Memref.isWhole_whole _) lenV (Memref.isWhole_whole _) rkV (Memref.isWhole_whole _) thV (Memref.isWhole_whole _)
            outV (Memref.isWhole_whole _) slS (Memref.isWhole_whole _) thS (Memref.isWhole_whole _) tokS (Memref.isWhole_whole _)
            rkS (Memref.isWhole_whole _) outS (Memref.isWhole_whole _) cc0_scoped0 cc0_scoped1 cc0_scoped2 cc0_scoped3 cc0_scoped4)
          fun _ => iprop(piece m d L (outV0 m d) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V,
    piece_eq, piece_eq]
  iintro ⟨#Hlv, -, ⟨Ht, Hl, Hr, Hh, Ho⟩, ⟨⟨⟨%b0, H0⟩, ⟨%b1, H1⟩, ⟨%b2, H2⟩, ⟨%b3, H3⟩, ⟨%b4, H4⟩⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave H0' := (Entails.of_eq (pts_scr (F := F) d L cc0_scratch0 b0).symm) $$ H0
  ihave H1' := (Entails.of_eq (pts_scr (F := F) d L cc0_scratch1 b1).symm) $$ H1
  ihave H2' := (Entails.of_eq (pts_scr (F := F) d L cc0_scratch2 b2).symm) $$ H2
  ihave H3' := (Entails.of_eq (pts_scr (F := F) d L cc0_scratch3 b3).symm) $$ H3
  ihave H4' := (Entails.of_eq (pts_scr (F := F) d L cc0_scratch4 b4).symm) $$ H4
  iapply (wp_wand_r Idealize.ShloMosaic.frame (wpE (defs₀ (F := F)) 𝒱₀ (VT d L) none) Set.univ)
  isplitl [Ht Hl Hr Hh Ho H0' H1' H2' H3' H4' HC HO]
  · iapply (tile_run d L (m (tokLoc d)) (m (lenLoc d)) rkT thT (m (outLoc d)) (tokQ L) (hpre d) O W b0 b1 b2 b3 b4)
    isplitr; · iexact Hmw
    isplitl [Ht]; · iexact Ht
    isplitl [Hl]; · iexact Hl
    isplitl [Hr]; · iexact Hr
    isplitl [Hh]; · iexact Hh
    isplitl [Ho]; · iexact Ho
    isplitl [H0']; · iexact H0'
    isplitl [H1']; · iexact H1'
    isplitl [H2']; · iexact H2'
    isplitl [H3']; · iexact H3'
    isplitl [H4']; · iexact H4'
    isplitl [HC]; · iexact HC
    iexact HO
  iintro %_ ⟨Ht, Hl, Hr, Hh, Ho, ⟨%g0, H0⟩, ⟨%g1, H1⟩, ⟨%g2, H2⟩, ⟨%g3, H3⟩, ⟨%g4, H4⟩, HC, ⟨%W', %hW', HO⟩⟩
  isplitl [Ht Hl Hr Hh Ho]
  · isplitl [Ht]; · iexact Ht
    isplitl [Hl]; · iexact Hl
    isplitl [Hr]; · iexact Hr
    isplitl [Hh]; · iexact Hh
    iexact Ho
  isplitl [H0 H1 H2 H3 H4 Hbufs]
  · isplitr [Hbufs]
    · isplitl [H0]; · iexists _; iapply (Entails.of_eq (pts_scr (F := F) d L cc0_scratch0 g0)); iexact H0
      isplitl [H1]; · iexists _; iapply (Entails.of_eq (pts_scr (F := F) d L cc0_scratch1 g1)); iexact H1
      isplitl [H2]; · iexists _; iapply (Entails.of_eq (pts_scr (F := F) d L cc0_scratch2 g2)); iexact H2
      isplitl [H3]; · iexists _; iapply (Entails.of_eq (pts_scr (F := F) d L cc0_scratch3 g3)); iexact H3
      iexists _; iapply (Entails.of_eq (pts_scr (F := F) d L cc0_scratch4 g4)); iexact H4
    iexact Hbufs
  isplitl [HC Hsems]
  · isplitl [HC]; · iexact HC
    iexact Hsems
  iexists W'; isplitr
  · ipureintro; exact fun p hp => (hW' p hp).imp_right Or.inl
  · iexact HO

end Body

theorem defs₀_vector (c : Fin τ.nSC) (s : Fin τ.nSub) :
    defs₀ (F := F) (.scVector c s) 0 ()
      = SparseCore.onTile hcore0 hsub0 (fun c s => cc0__sc_mask (coordsV c s)
          tokV (Memref.isWhole_whole _) lenV (Memref.isWhole_whole _) rkV (Memref.isWhole_whole _) thV (Memref.isWhole_whole _)
            outV (Memref.isWhole_whole _) slS (Memref.isWhole_whole _) thS (Memref.isWhole_whole _) tokS (Memref.isWhole_whole _)
            rkS (Memref.isWhole_whole _) outS (Memref.isWhole_whole _) cc0_scoped0 cc0_scoped1 cc0_scoped2 cc0_scoped3 cc0_scoped4) ⟨⟩ c s := rfl

/-- Every subcore's task meets what the call asks of it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

/-- What the call hands a SparseCore is already dealt to its sixteen subcores. -/
theorem vecSplit : (K (F := F)).VecSplit' (P m) 0 := by
  intro d c
  show core m d (Fin.cast nCore_zero c) (m (outLoc d)) ⊢ |={Set.univ}=> iprop(
      core m d (Fin.cast nCore_zero c) (m (outLoc d))
      ∗ (core m d (Fin.cast nCore_zero c) (outV0 m d) -∗ core m d (Fin.cast nCore_zero c) (outV0 m d)))
  iintro H; imodintro
  isplitl [H]; · iexact H
  iintro H; iexact H

/-! ## The whole arrays are the tasks' pieces -/

/-- The SparseCore and the subcore of a pair. -/
abbrev crd (p : Fin 2 × Fin 16) : grid0.Coords := coordsV p.1 p.2

omit [FloatOps F] in
theorem mem_blk (L : grid0.Coords) (x : S16x4096.Idx) : x ∈ blk L ↔ (x 0).val = (L 1).val ∧ (x 1).val / 2048 = (L 0).val := by
  have h2 : (L 0).val < 2 := (L 0).isLt
  have h1 : (x 1).val < 4096 := (x 1).isLt
  show x ∈ Finset.univ.map (outHalf L).view.emb ↔ _
  rw [Finset.mem_map]
  constructor
  · rintro ⟨j, -, rfl⟩
    rw [emb_half]
    have hj : (j 0).val < 2048 := (j 0).isLt
    refine ⟨rfl, ?_⟩
    show (2048 * (L 0).val + (j 0).val) / 2048 = _
    omega
  · rintro ⟨h, h'⟩
    refine ⟨at1 (n := 2048) ⟨(x 1).val % 2048, Nat.mod_lt _ (by decide)⟩, Finset.mem_univ _, ?_⟩
    rw [emb_half]
    funext a
    apply Fin.ext
    fin_cases a
    · exact h.symm
    · show 2048 * (L 0).val + (x 1).val % 2048 = (x 1).val
      omega

omit [FloatOps F] in
theorem blks_disjoint : ∀ p ∈ (Finset.univ : Finset (Fin 2 × Fin 16)), ∀ p' ∈ (Finset.univ : Finset (Fin 2 × Fin 16)), p ≠ p' →
    Disjoint (blk (crd p)) (blk (crd p')) := fun p _ p' _ h => by
  rw [Finset.disjoint_left]
  intro x hx hx'
  have a := (mem_blk _ x).1 hx
  have b := (mem_blk _ x).1 hx'
  exact h (Prod.ext (Fin.ext (a.2.symm.trans b.2)) (Fin.ext (a.1.symm.trans b.1)))

omit [FloatOps F] in
theorem blks_cover : (Finset.univ : Finset (Fin 2 × Fin 16)).biUnion (fun p => blk (crd p)) = Finset.univ := by
  refine Finset.eq_univ_of_forall fun x => Finset.mem_biUnion.mpr ?_
  have h0 : (x 0).val < 16 := (x 0).isLt
  have h1 : (x 1).val < 4096 := (x 1).isLt
  exact ⟨(⟨(x 1).val / 2048, by omega⟩, ⟨(x 0).val, h0⟩), Finset.mem_univ _, (mem_blk _ x).2 ⟨rfl, rfl⟩⟩

omit [FloatOps F] in
/-- The result's array is its thirty-two half rows. -/
theorem outPts (d : Dev nD) (f : Buf (Elt F) (outLoc d)) :
    (outLoc d ↦{fullShare} f : sProp 𝕄) = bigSep Finset.univ fun p : Fin 2 × Fin 16 => outLoc d ↦[blk (crd p)]{fullShare} f := by
  rw [← pointsTo_biUnion Finset.univ (ℓ := outLoc d) (fun p => blk (crd p)) blks_disjoint, blks_cover]

omit [FloatOps F] in
/-- An array held whole is a remainder and the thirty-two tasks' read shares. -/
theorem toks (ℓ : Loc nD τ sig) (f : Buf (Elt F) ℓ) :
    (ℓ ↦{fullShare} f : sProp 𝕄) = iprop((ℓ ↦{Transfers.shareDrop fullShare 32} f) ∗ bigSep Finset.univ fun p : Fin 2 × Fin 16 => ℓ ↦{tokQ (crd p)} f) := by
  have h : (ℓ ↦{fullShare} f : sProp 𝕄) ⊣⊢ iprop((ℓ ↦{Transfers.shareDrop fullShare 32} f)
      ∗ BI.bigSep Finset.univ (fun i : Fin 32 => ℓ ↦{Transfers.shareTok fullShare 32 i} f)) := Transfers.pointsTo_toks fullShare 32
  rw [BI.Entails.antisymm h.1 h.2]
  refine congrArg _ ?_
  rw [bigSep_univ_equiv (finProdFinEquiv : Fin 2 × Fin 16 ≃ Fin 32)]
  refine bigSep_congr fun p _ => ?_
  show (ℓ ↦{Transfers.shareTokN fullShare (p.2.val + 16 * p.1.val)} f : sProp 𝕄) = ℓ ↦{Transfers.shareTokN fullShare (16 * p.1.val + p.2.val)} f
  rw [Nat.add_comm]

/-- The remainders of the four arrays the tasks read. -/
abbrev rest (d : Dev nD) : sProp 𝕄 :=
  iprop((tokLoc d ↦{Transfers.shareDrop fullShare 32} m (tokLoc d)) ∗ (lenLoc d ↦{Transfers.shareDrop fullShare 32} m (lenLoc d))
    ∗ (rkLoc d ↦{Transfers.shareDrop fullShare 32} (rkT : Buf (Elt F) (rkLoc d))) ∗ (thLoc d ↦{Transfers.shareDrop fullShare 32} (thT : Buf (Elt F) (thLoc d))))

/-- The five arrays held whole, the result's at `f`. -/
abbrev whole5 (d : Dev nD) (f : Buf (Elt F) (outLoc d)) : sProp 𝕄 :=
  iprop((tokLoc d ↦{fullShare} m (tokLoc d)) ∗ (lenLoc d ↦{fullShare} m (lenLoc d))
    ∗ (rkLoc d ↦{fullShare} (rkT : Buf (Elt F) (rkLoc d))) ∗ (thLoc d ↦{fullShare} (thT : Buf (Elt F) (thLoc d))) ∗ (outLoc d ↦{fullShare} f))

omit [FloatOps F] in
theorem cores_eq (d : Dev nD) (f : Buf (Elt F) (outLoc d)) :
    (bigSep Finset.univ fun c : Fin 2 => core m d c f) = (iprop((bigSep Finset.univ fun p : Fin 2 × Fin 16 => tokLoc d ↦{tokQ (crd p)} m (tokLoc d))
      ∗ (bigSep Finset.univ fun p : Fin 2 × Fin 16 => lenLoc d ↦{tokQ (crd p)} m (lenLoc d))
      ∗ (bigSep Finset.univ fun p : Fin 2 × Fin 16 => rkLoc d ↦{tokQ (crd p)} (rkT : Buf (Elt F) (rkLoc d)))
      ∗ (bigSep Finset.univ fun p : Fin 2 × Fin 16 => thLoc d ↦{tokQ (crd p)} (thT : Buf (Elt F) (thLoc d)))
      ∗ (bigSep Finset.univ fun p : Fin 2 × Fin 16 => outLoc d ↦[blk (crd p)]{fullShare} f)) : sProp 𝕄) := by
  rw [← bigSep_sep', ← bigSep_sep', ← bigSep_sep', ← bigSep_sep', BI.bigSep_univ_prod]

omit [FloatOps F] in
theorem whole5_split (d : Dev nD) (f : Buf (Elt F) (outLoc d)) :
    whole5 m d f ⊢ (iprop(rest m d ∗ bigSep Finset.univ fun c : Fin 2 => core m d c f) : sProp 𝕄) := by
  rw [cores_eq, ← outPts]
  unfold whole5
  rw [toks (tokLoc d), toks (lenLoc d), toks (rkLoc d), toks (thLoc d)]
  iintro ⟨⟨Ht, Ht'⟩, ⟨Hl, Hl'⟩, ⟨Hr, Hr'⟩, ⟨Hh, Hh'⟩, Ho⟩
  isplitl [Ht Hl Hr Hh]
  · isplitl [Ht]; · iexact Ht
    isplitl [Hl]; · iexact Hl
    isplitl [Hr]; · iexact Hr
    iexact Hh
  isplitl [Ht']; · iexact Ht'
  isplitl [Hl']; · iexact Hl'
  isplitl [Hr']; · iexact Hr'
  isplitl [Hh']; · iexact Hh'
  iexact Ho

omit [FloatOps F] in
theorem whole5_join (d : Dev nD) (f : Buf (Elt F) (outLoc d)) :
    (iprop(rest m d ∗ bigSep Finset.univ fun c : Fin 2 => core m d c f) : sProp 𝕄) ⊢ whole5 m d f := by
  rw [cores_eq, ← outPts]
  unfold whole5
  rw [toks (tokLoc d), toks (lenLoc d), toks (rkLoc d), toks (thLoc d)]
  iintro ⟨⟨Ht, Hl, Hr, Hh⟩, Ht', Hl', Hr', Hh', Ho⟩
  isplitl [Ht Ht']
  · isplitl [Ht]; · iexact Ht
    iexact Ht'
  isplitl [Hl Hl']
  · isplitl [Hl]; · iexact Hl
    iexact Hl'
  isplitl [Hr Hr']
  · isplitl [Hr]; · iexact Hr
    iexact Hr'
  isplitl [Hh Hh']
  · isplitl [Hh]; · iexact Hh
    iexact Hh'
  iexact Ho

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

abbrev tok' : DevRef τ sig := Proc.devRef .tc (main_arg0 : Ref sig .tc)
abbrev len' : DevRef τ sig := Proc.devRef .tc (main_arg1 : Ref sig .tc)
abbrev rk' : DevRef τ sig := Proc.devRef .tc (main_c : Ref sig .tc)
abbrev th' : DevRef τ sig := Proc.devRef .tc (main_c_0 : Ref sig .tc)
abbrev out' : DevRef τ sig := Proc.devRef .tc (main_v0 : Ref sig .tc)
abbrev S5 : Finset (DevRef τ sig) := {tok', len', rk', th', out'}

abbrev opRk : HloOp τ sig (Elt F) := StableHlo.nullary main_c (fun i => lit0 (S16x4096.rowMajor i))
abbrev opTh : HloOp τ sig (Elt F) := StableHlo.nullary main_c_0 (fun i => lit1 (S16x4104.rowMajor i))

omit [FloatOps F] in
theorem held_S5 (d : Dev nD) (W : Valuation τ sig (Elt F)) :
    (held (T d) S5 W : sProp 𝕄) = iprop((tokLoc d ↦{fullShare} W tok') ∗ (lenLoc d ↦{fullShare} W len') ∗ (rkLoc d ↦{fullShare} W rk')
      ∗ (thLoc d ↦{fullShare} W th') ∗ (outLoc d ↦{fullShare} W out')) := by
  unfold held S5
  rw [SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_c, main_c_0, main_v0} by decide,
    SparseCore.bigSep_insert' (by decide), SparseCore.bigSep_insert' (by decide), SparseCore.bigSep_insert' (by decide),
    SparseCore.bigSep_insert' (by decide), bigSep_singleton]
  rfl

abbrev V2 (d : Dev nD) : Valuation τ sig (Elt F) := (opTh (F := F)).result ((opRk (F := F)).result (V0 m d))

/-- After the two constants are written. -/
theorem held_V2 (d : Dev nD) : (held (T d) S5 (V2 m d) : sProp 𝕄) = whole5 m d (m (outLoc d)) := by
  rw [held_S5]
  unfold whole5 V2
  rw [(opTh (F := F)).result_of_not_mem (b := tok') _ (show tok' ∉ ({th'} : Finset (DevRef τ sig)) by decide),
    (opTh (F := F)).result_of_not_mem (b := len') _ (show len' ∉ ({th'} : Finset (DevRef τ sig)) by decide),
    (opTh (F := F)).result_of_not_mem (b := rk') _ (show rk' ∉ ({th'} : Finset (DevRef τ sig)) by decide),
    (opTh (F := F)).result_of_not_mem (b := out') _ (show out' ∉ ({th'} : Finset (DevRef τ sig)) by decide),
    (opRk (F := F)).result_of_not_mem (b := tok') _ (show tok' ∉ ({rk'} : Finset (DevRef τ sig)) by decide),
    (opRk (F := F)).result_of_not_mem (b := len') _ (show len' ∉ ({rk'} : Finset (DevRef τ sig)) by decide),
    (opRk (F := F)).result_of_not_mem (b := out') _ (show out' ∉ ({rk'} : Finset (DevRef τ sig)) by decide)]
  unfold opTh opRk
  rw [StableHlo.nullary_result, StableHlo.nullary_result]
  rfl

theorem hRk : (opRk (F := F)).bufs ⊆ S5 := show ({rk'} : Finset (DevRef τ sig)) ⊆ S5 by decide
theorem hTh : (opTh (F := F)).bufs ⊆ S5 := show ({th'} : Finset (DevRef τ sig)) ⊆ S5 by decide

theorem st0_eq (d : Dev nD) : (bigSep Finset.univ fun c : Fin ((K (F := F)).nCore 0) => (P m).st 0 d c) = bigSep Finset.univ fun c : Fin 2 => core m d c (m (outLoc d)) := rfl
theorem dn0_eq (d : Dev nD) : (bigSep Finset.univ fun c : Fin ((K (F := F)).nCore 0) => (P m).dn 0 d c) = bigSep Finset.univ fun c : Fin 2 => core m d c (outV0 m d) := rfl

/-- What the program leaves: the arguments as launched and the result at the kernel's values. -/
abbrev FIN (d : Dev nD) : sProp 𝕄 :=
  iprop((tokLoc d ↦{fullShare} m (tokLoc d)) ∗ (lenLoc d ↦{fullShare} m (lenLoc d)) ∗ (outLoc d ↦{fullShare} outV0 m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opRk) (S := S5) hRk (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opTh) (S := S5) hTh (V := (opRk (F := F)).result (V0 m d))) $$ [Hb Hheld]
  · isplitl [Hb]; · iexact Hb
    iexact Hheld
  iintro ⟨Hb, Hheld⟩
  rw [wp_ret]; imodintro
  ihave Hw := (Entails.of_eq (held_V2 (F := F) m d)) $$ Hheld
  ihave Hs := (whole5_split m d (m (outLoc d))) $$ Hw
  icases Hs with ⟨Hrest, Hcores⟩
  iapply ((K (F := F)).wp_run (D (F := F)) 𝒱 (EH := EH) (P := P m) κ d 0) $$ [Hst Hcores Hrest Hb Hts]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hw := (whole5_join m d (outV0 m d)) $$ [Hrest Hdn']
  · isplitl [Hrest]; · iexact Hrest
    iexact Hdn'
  icases Hw with ⟨Ht, Hl, -, -, Ho⟩
  imodintro
  isplitl [Hst]; · iexact Hst
  isplitr [Hb Hts]
  · isplitl [Ht]; · iexact Ht
    isplitl [Hl]; · iexact Hl
    iexact Ho
  isplitl [Hb] <;> iassumption

def fq (d : Dev nD) (s' : Phys nD τ sig (Elt F)) : Prop :=
  s'.mem.mem (tokLoc d) = m (tokLoc d) ∧ s'.mem.mem (lenLoc d) = m (lenLoc d) ∧ s'.mem.mem (outLoc d) = outV0 m d

theorem hfin (d : Dev nD) (s' : Phys nD τ sig (Elt F)) : iprop(FIN m d ∗ SI s') ⊢ (⌜fq m d s'⌝ : sProp 𝕄) := by
  iintro ⟨⟨Ht, Hl, Ho⟩, HSI⟩
  ihave H := (persistent_entails_right (SI_pointsTo_agree (st := s') (ℓ := tokLoc d) (I := Finset.univ) (q := fullShare) (f := m (tokLoc d)))) $$ [HSI Ht]
  · isplitl [HSI] <;> iassumption
  icases H with ⟨%h1, HSI, -⟩
  ihave H := (persistent_entails_right (SI_pointsTo_agree (st := s') (ℓ := lenLoc d) (I := Finset.univ) (q := fullShare) (f := m (lenLoc d)))) $$ [HSI Hl]
  · isplitl [HSI] <;> iassumption
  icases H with ⟨%h2, HSI, -⟩
  ihave H := (SI_pointsTo_agree (st := s') (ℓ := outLoc d) (I := Finset.univ) (q := fullShare) (f := outV0 m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- At the end: on every device the arguments as launched and the result at the kernel's values; every counter at zero. -/
def QC : PUnit × MemSt nD τ sig (Elt F) → Prop := fun r =>
  (∀ c : Dev nD, r.2.mem (tokLoc c) = m (tokLoc c) ∧ r.2.mem (lenLoc c) = m (lenLoc c) ∧ r.2.mem (outLoc c) = outV0 m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Frames.lean ====
/- The precondition read, and the three programs' frames. -/
module

public import proofs.«01_k».proof.Proof.Launch
public import proofs.«01_k».proof.Proof.KLaunch
public import proofs.«01_k».proof.Proof.Gen.ReferenceIdeal
public import proofs.«01_k».proof.Defs
public import Idealize.ShloMosaic.Lib.Claim
public import Idealize.ShloMosaic.Lib.ReduceAll
public import Idealize.ShloMosaic.Lib.WordCmp

@[expose] public section

noncomputable section

namespace Cert.Proof

open Idealize.ShloMosaic Idealize.SL.Sem
open Cert.Pre_in_range.Gen Cert.ReferenceIdeal.Gen

instance : Subsingleton Cert.Pre_in_range.S_.Idx := ⟨fun a b => funext fun i => i.elim0⟩

/-- The precondition all ones: every length's word is below 4096. -/
theorem len_lt {F : FTy → Type} [FloatOps F] (a : IVec Cert.Pre_in_range.S16x4096 32) (b : IVec Cert.Pre_in_range.S16 32)
    (h : Cert.Pre_in_range.fn (F := F) a b = fun _ => 1#1) (i : Cert.Pre_in_range.S16.Idx) : (b i).toNat < 4096 := by
  have e' : IntOp.andi (IntOp.cmpi .sge (b i) 0#32) (IntOp.cmpi .slt (b i) (BitVec.ofNat 32 4096)) = 1#1 :=
    Host.reduce_andi_all _ _ _ _ _ (congrFun h (fun k => k.elim0)) i
  rw [WordCmp.andi_sge_zero_slt_ofNat (by decide)] at e'
  by_contra hn
  rw [decide_eq_false hn] at e'
  exact absurd e' (by decide)

theorem pre_Kernel (m : (ℓ : Loc Cert.Kernel.nD Cert.Kernel.τ Cert.Kernel.sig) → Buf (Elt Bits) ℓ) (h : Cert.Pre_Kernel m) : Kernel.PreOK m :=
  fun d j => len_lt _ _ (h d) j

theorem pre_KernelIdeal (m : (ℓ : Loc Cert.KernelIdeal.nD Cert.KernelIdeal.τ Cert.KernelIdeal.sig) → Buf (Elt Ideal) ℓ) (h : Cert.Pre_KernelIdeal m) :
    KernelIdeal.PreOK m :=
  fun d j => len_lt _ _ (h d) j

/-- The kernel's frame. -/
theorem frame_Kernel : Cert.quiescent_Kernel := fun m g hpre =>
  (θ_run Cert.Kernel.defs _ _).mono (fun _ h => ⟨fun c => ⟨(h.1 c).1, (h.1 c).2.1⟩, h.2⟩) (Kernel.run_main (F := Bits) m g (pre_Kernel m hpre))

/-- The idealized kernel's frame. -/
theorem frame_KernelIdeal : Cert.quiescent_KernelIdeal := fun m g hpre =>
  (θ_run Cert.KernelIdeal.defs _ _).mono (fun _ h => ⟨fun c => ⟨(h.1 c).1, (h.1 c).2.1⟩, h.2⟩) (KernelIdeal.run_main (F := Ideal) m g (pre_KernelIdeal m hpre))

end Cert.Proof

end
-- ==== Proof.RefRun.lean ====
/- The reference's run: a straight line of host operations. -/
module

public import proofs.«01_k».proof.Proof.Gen.ReferenceIdeal
public import proofs.«01_k».proof.Defs
public import Idealize.ShloMosaic.Lib.Claim
public import Idealize.ShloMosaic.Lib.StableHlo.RunRead
public import Idealize.ShloMosaic.Lib.Quiescent

@[expose] public section

noncomputable section

namespace Cert.Proof.Reference

open Idealize.ShloMosaic Idealize.SL.Sem
open Cert.ReferenceIdeal Cert.ReferenceIdeal.Gen

set_option maxRecDepth 100000 in
set_option maxHeartbeats 0 in
/-- The reference's line of operations, read off its text. -/
def line (d : Dev nD) : { l : List (HloOp τ sig (Elt Ideal)) // StableHlo.IsSeq (main (F := Ideal) d) l } := by
  apply Subtype.mk
  hlo_seq

abbrev ops : List (HloOp τ sig (Elt Ideal)) := (line 0).1

theorem ops_length : ops.length = 305 := by decide +kernel

set_option maxRecDepth 100000 in
set_option maxHeartbeats 0 in
/-- The reference runs to what its line of operations leaves. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b) = StableHlo.after ops (StableHlo.launchContents m d) (Proc.devRef .tc b) :=
  StableHlo.run_hlo defs main (ops := ops) (fun d => by rw [Subsingleton.elim d 0]; exact (line 0).2) (by decide) (by decide) (by simp [ops, line])
    (by intro _ h; (repeat (cases h with | head => rfl | tail _ h => ?_)); exact nomatch h) m g

set_option maxRecDepth 100000 in
set_option maxHeartbeats 0 in
theorem arg0_kept (V : Valuation τ sig (Elt Ideal)) : StableHlo.after ops V (Proc.devRef .tc main_arg0) = V (Proc.devRef .tc main_arg0) := by
  after_reads_simp

set_option maxRecDepth 100000 in
set_option maxHeartbeats 0 in
theorem arg1_kept (V : Valuation τ sig (Elt Ideal)) : StableHlo.after ops V (Proc.devRef .tc main_arg1) = V (Proc.devRef .tc main_arg1) := by
  after_reads_simp

/-- The reference's frame: it runs, its arguments end unchanged, and it has no counter that could be off zero. -/
theorem frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  θ_run_mono (run m g) fun r h => ⟨fun c => ⟨(h c main_arg0).trans (arg0_kept _), (h c main_arg1).trans (arg1_kept _)⟩,
    sem_eq_zero_of_no_sems (by decide) r.2⟩

end Cert.Proof.Reference

end
-- ==== Proof.Checks.lean ====
module

public import Mathlib.Data.Nat.Basic

/-! # Checks of rows of numbers

A row of 4096 numbers is packed into one number, a fixed count of bits per entry, so that a check over
the whole row is arithmetic on a few thousand large numbers.  This file says what the checks are;
`RowFacts` says what a row that passes has. -/

@[expose] public section

namespace Cert.Proof

/-- Evaluates `n` before passing it on. -/
def force {α : Sort _} (n : Nat) (k : Nat → α) : α := Nat.rec (k 0) (fun m _ => k (Nat.succ m)) n

theorem force_eq {α : Sort _} (n : Nat) (k : Nat → α) : force n k = k n := by cases n <;> rfl

/-- `p` holds of every number below `n`. -/
def allBelow (p : Nat → Bool) (n : Nat) : Bool := Nat.rec true (fun k ih => p k && ih) n

/-- The numbers `f 0`, …, `f (n - 1)` as the digits of one number in base `2 ^ w`. -/
def pack (w : Nat) (f : Nat → Nat) (n : Nat) : Nat :=
  Nat.rec 0 (fun k a => Nat.add a (Nat.shiftLeft (f k) (Nat.mul w k))) n

/-- Digit `k` of `N` in base `2 ^ w`. -/
def digit (w N k : Nat) : Nat := Nat.mod (Nat.shiftRight N (Nat.mul w k)) (Nat.pow 2 w)

/-- Where each value of the packed row `F` stands, packed: the sum of `p` at digit `F p`. -/
def inverse (F n : Nat) : Nat :=
  Nat.rec 0 (fun p a => Nat.add a (Nat.shiftLeft p (Nat.mul 16 (digit 16 F p)))) n

/-- Entry `k` of the order `I` is a place of the row, the row's value there is `k`, and its key is below
    the next one's. -/
def orderAt (F K I k : Nat) : Bool :=
  force (digit 16 I k) fun o =>
    (Nat.blt o 4096 && Nat.beq (digit 16 F o) k) &&
      (Nat.beq k 4095 || Nat.blt (digit 40 K o) (digit 40 K (digit 16 I (Nat.succ k))))

/-- Ones at the digits `a` to `4095`, base `2 ^ 16`. -/
def onesFrom (a : Nat) : Nat := Nat.div (Nat.sub (Nat.pow 2 65536) (Nat.pow 2 (Nat.mul 16 a))) 65535

/-- The packed counts: digit `k` is how many of the row's first `s` entries are at most `k`. -/
def counts (F s : Nat) : Nat :=
  Nat.rec 0 (fun q a => Nat.add a (onesFrom (digit 16 F q))) s

/-- The threshold `t` admits seven tenths of the first `s` entries; the threshold minus one admits none. -/
def thrAt (C s t : Nat) : Bool :=
  force (Nat.div (Nat.mul 7 s) 10) fun m =>
    (Nat.beq m 0 && Nat.beq t 4294967295) || (Nat.blt t 4096 && Nat.beq (digit 16 C t) m)

/-- The whole check of a row: `fr` ranks the keys `key`, and `thr` holds the thresholds. -/
def rowOk (fr thr key : Nat → Nat) : Bool :=
  force (pack 16 fr 4096) fun F => force (pack 40 key 4096) fun K => force (inverse F 4096) fun I =>
    (allBelow (fun p => Nat.blt (fr p) 4096) 4096 && allBelow (orderAt F K I) 4096) &&
      allBelow (fun s => thrAt (counts F s) s (thr s)) 4096

end Cert.Proof
-- ==== Proof.Words.lean ====
module

public import proofs.«01_k».proof.Proof.Checks
public import proofs.«01_k».proof.KernelIdeal

/-! # The random words, as numbers, and the kernel's two tables, row by row

`wordN n` is the random word that the reference draws for counter `n`, computed on numbers below `2 ^ 32`;
`RefBits` shows that it is.  `keyN r p` is the key that orders place `p` of row `r`: a higher score first, and
of equal scores the earlier place.  `RowOk r` is the check of row `r` of the tables. -/

@[expose] public section

namespace Cert.Proof

/-- One mixing step on two numbers below `2 ^ 32`: the sum, and the second number turned left by `r` and
    mixed with it. -/
def mixN {α : Sort _} (r x y : Nat) (k : Nat → Nat → α) : α :=
  force (Nat.mod (Nat.add x y) 4294967296) fun a =>
    force (Nat.xor a
      (Nat.lor (Nat.mod (Nat.shiftLeft y r) 4294967296) (Nat.shiftRight y (Nat.sub 32 r)))) fun b => k a b

/-- The addition of two key words. -/
def injectN {α : Sort _} (c d x y : Nat) (k : Nat → Nat → α) : α :=
  force (Nat.mod (Nat.add x c) 4294967296) fun a => force (Nat.mod (Nat.add y d) 4294967296) fun b => k a b

/-- Four mixing steps and an addition of key words. -/
def fourN {α : Sort _} (r₁ r₂ r₃ r₄ c d x y : Nat) (k : Nat → Nat → α) : α :=
  mixN r₁ x y fun x y => mixN r₂ x y fun x y => mixN r₃ x y fun x y => mixN r₄ x y fun x y =>
    injectN c d x y k

/-- The random word of counter `n`, from the key words `0`, `42` and `466689008`. -/
def wordN (n : Nat) : Nat :=
  injectN 0 42 0 n fun x y =>
  fourN 13 15 26 6 42 466689009 x y fun x y =>
  fourN 17 29 16 24 466689008 2 x y fun x y =>
  fourN 13 15 26 6 0 45 x y fun x y =>
  fourN 17 29 16 24 42 466689012 x y fun x y =>
  fourN 13 15 26 6 466689008 5 x y fun x y => Nat.xor x y

/-- The key of place `p` of row `r`: smaller for a higher score, and between equal scores for the earlier
    place. -/
def keyN (r p : Nat) : Nat :=
  Nat.add (Nat.mul (Nat.sub 8388607 (Nat.shiftRight (wordN (Nat.add (Nat.mul 4096 r) p)) 9)) 4096) p

/-- Row `r` of the kernel's table of ranks. -/
noncomputable def rankN (r p : Nat) : Nat := (Cert.KernelIdeal.lit0t (Nat.add (Nat.mul 4096 r) p)).toNat

/-- Row `r` of the kernel's table of thresholds. -/
noncomputable def thrN (r s : Nat) : Nat := (Cert.KernelIdeal.lit1t (Nat.add (Nat.mul 4104 r) s)).toNat

/-- Row `r` of the tables passes the check. -/
abbrev RowOk (r : Nat) : Prop := rowOk (rankN r) (thrN r) (keyN r) = true

end Cert.Proof
-- ==== Proof.RefBits.lean ====
/- The reference's random words. -/
module

public import proofs.«01_k».proof.Proof.RefRun
public import proofs.«01_k».proof.Proof.Words
public import Idealize.ShloMosaic.Lib.StableHlo.ReadAt

@[expose] public section

noncomputable section

namespace Cert.Proof

/-- One mixing step: the sum, and the second word turned left by `r` and mixed with it. -/
def mix (r : Nat) (x : BitVec 32 × BitVec 32) : BitVec 32 × BitVec 32 :=
  (x.1 + x.2, (x.1 + x.2) ^^^ ((x.2 <<< r) ||| (x.2 >>> (32 - r))))

/-- The addition of two key words, and of `c` to the second. -/
def inject (a b c : BitVec 32) (x : BitVec 32 × BitVec 32) : BitVec 32 × BitVec 32 := (x.1 + a, x.2 + b + c)

/-- Four mixing steps and an addition of key words. -/
def four (r₁ r₂ r₃ r₄ : Nat) (a b c : BitVec 32) (x : BitVec 32 × BitVec 32) : BitVec 32 × BitVec 32 :=
  inject a b c (mix r₄ (mix r₃ (mix r₂ (mix r₁ x))))

/-- The random word of counter `n`. -/
def word (n : BitVec 32) : BitVec 32 :=
  let x := four 13 15 26 6 466689008#32 0#32 5#32
    (four 17 29 16 24 42#32 466689008#32 4#32
      (four 13 15 26 6 0#32 42#32 3#32
        (four 17 29 16 24 466689008#32 0#32 2#32
          (four 13 15 26 6 42#32 466689008#32 1#32 (0#32 + 0#32, n + 42#32)))))
  x.1 ^^^ x.2

namespace Reference

open Idealize.ShloMosaic Idealize.SL.Sem StableHlo
open Cert.ReferenceIdeal Cert.ReferenceIdeal.Gen

/-- `n` operations of the line, from position `a` on. -/
def seg (a n : Nat) : List (HloOp τ sig (Elt Ideal)) := (ops.drop a).take n

theorem after_append_lists (l₁ l₂ : List (HloOp τ sig (Elt Ideal))) (V : Valuation τ sig (Elt Ideal)) :
    after (l₁ ++ l₂) V = after l₂ (after l₁ V) := by
  induction l₁ generalizing V with
  | nil => rfl
  | cons op l ih => exact ih _

theorem upto_add (V : Valuation τ sig (Elt Ideal)) (a n : Nat) :
    upto ops V (a + n) = after (seg a n) (upto ops V a) := by
  unfold upto seg
  rw [List.take_add, after_append_lists]

theorem after_eq (V : Valuation τ sig (Elt Ideal)) (a : Nat) :
    after ops V = after (ops.drop a) (upto ops V a) := by
  unfold upto
  rw [← after_append_lists, List.take_append_drop]

/-- A table of words held in a buffer. -/
abbrev Words : Type := S16x4096.Idx → BitVec 32

/-- The two running words at `i`, held in two buffers. -/
abbrev pairAt (x y : Words) (i : S16x4096.Idx) : BitVec 32 × BitVec 32 := (x i, y i)

section Groups

variable (W : Valuation τ sig (Elt Ideal)) (i : S16x4096.Idx)

abbrev key0 : BitVec 32 := (W (Proc.devRef .tc main_call0_v5) : S_.Idx → BitVec 32) ix0
abbrev key1 : BitVec 32 := (W (Proc.devRef .tc main_call0_v7) : S_.Idx → BitVec 32) ix0
abbrev key2 : BitVec 32 := (W (Proc.devRef .tc main_call0_call0_v1) : S_.Idx → BitVec 32) ix0
/-- The two running words at `i`, after 0 groups of four steps. -/
abbrev state0 : BitVec 32 × BitVec 32 :=
  pairAt (W (Proc.devRef .tc main_call0_call0_v3)) (W (Proc.devRef .tc main_call0_call0_v5)) i
/-- The two running words at `i`, after 1 groups of four steps. -/
abbrev state1 : BitVec 32 × BitVec 32 :=
  pairAt (W (Proc.devRef .tc main_call0_call0_v35)) (W (Proc.devRef .tc main_call0_call0_v39)) i
/-- The two running words at `i`, after 2 groups of four steps. -/
abbrev state2 : BitVec 32 × BitVec 32 :=
  pairAt (W (Proc.devRef .tc main_call0_call0_v69)) (W (Proc.devRef .tc main_call0_call0_v73)) i
/-- The two running words at `i`, after 3 groups of four steps. -/
abbrev state3 : BitVec 32 × BitVec 32 :=
  pairAt (W (Proc.devRef .tc main_call0_call0_v103)) (W (Proc.devRef .tc main_call0_call0_v107)) i
/-- The two running words at `i`, after 4 groups of four steps. -/
abbrev state4 : BitVec 32 × BitVec 32 :=
  pairAt (W (Proc.devRef .tc main_call0_call0_v137)) (W (Proc.devRef .tc main_call0_call0_v141)) i
/-- The two running words at `i`, after 5 groups of four steps. -/
abbrev state5 : BitVec 32 × BitVec 32 :=
  pairAt (W (Proc.devRef .tc main_call0_v19_0)) (W (Proc.devRef .tc main_call0_v19_1)) i

set_option maxRecDepth 100000 in
set_option maxHeartbeats 0 in
theorem group0 : state1 (after (seg 41 43) W) i
    = four 13 15 26 6 (key1 W) (key2 W) 1#32 (state0 W i) := by
  refine Prod.ext ?_ ?_
  · show (after (seg 41 43) W (Proc.devRef .tc main_call0_call0_v35) : Words) i = _
    after_reads_at
    rfl
  · show (after (seg 41 43) W (Proc.devRef .tc main_call0_call0_v39) : Words) i = _
    after_reads_at
    rfl

set_option maxRecDepth 100000 in
set_option maxHeartbeats 0 in
theorem group1 : state2 (after (seg 84 43) W) i
    = four 17 29 16 24 (key2 W) (key0 W) 2#32 (state1 W i) := by
  refine Prod.ext ?_ ?_
  · show (after (seg 84 43) W (Proc.devRef .tc main_call0_call0_v69) : Words) i = _
    after_reads_at
    rfl
  · show (after (seg 84 43) W (Proc.devRef .tc main_call0_call0_v73) : Words) i = _
    after_reads_at
    rfl

set_option maxRecDepth 100000 in
set_option maxHeartbeats 0 in
theorem group2 : state3 (after (seg 127 43) W) i
    = four 13 15 26 6 (key0 W) (key1 W) 3#32 (state2 W i) := by
  refine Prod.ext ?_ ?_
  · show (after (seg 127 43) W (Proc.devRef .tc main_call0_call0_v103) : Words) i = _
    after_reads_at
    rfl
  · show (after (seg 127 43) W (Proc.devRef .tc main_call0_call0_v107) : Words) i = _
    after_reads_at
    rfl

set_option maxRecDepth 100000 in
set_option maxHeartbeats 0 in
theorem group3 : state4 (after (seg 170 43) W) i
    = four 17 29 16 24 (key1 W) (key2 W) 4#32 (state3 W i) := by
  refine Prod.ext ?_ ?_
  · show (after (seg 170 43) W (Proc.devRef .tc main_call0_call0_v137) : Words) i = _
    after_reads_at
    rfl
  · show (after (seg 170 43) W (Proc.devRef .tc main_call0_call0_v141) : Words) i = _
    after_reads_at
    rfl

set_option maxRecDepth 100000 in
set_option maxHeartbeats 0 in
theorem group4 : state5 (after (seg 213 43) W) i
    = four 13 15 26 6 (key2 W) (key0 W) 5#32 (state4 W i) := by
  refine Prod.ext ?_ ?_
  · show (after (seg 213 43) W (Proc.devRef .tc main_call0_v19_0) : Words) i = _
    after_reads_at
    rfl
  · show (after (seg 213 43) W (Proc.devRef .tc main_call0_v19_1) : Words) i = _
    after_reads_at
    rfl

end Groups

variable (V : Valuation τ sig (Elt Ideal))

set_option maxRecDepth 100000 in
set_option maxHeartbeats 0 in
/-- The key words stand in their buffers before each group. -/
theorem keys (n : Nat) (h : n = 41 ∨ n = 84 ∨ n = 127 ∨ n = 170 ∨ n = 213) :
    key0 (upto ops V n) = 0#32 ∧ key1 (upto ops V n) = 42#32 ∧ key2 (upto ops V n) = 466689008#32 := by
  obtain rfl | rfl | rfl | rfl | rfl := h
  all_goals
    refine ⟨?_, ?_, ?_⟩
    all_goals
      first | unfold key0 | unfold key1 | unfold key2
      after_reads_at
      after_reads_at
      rfl

/-- Counter `a * 4096 + b` split into its two halves: the upper one is zero. -/
theorem counter_hi (a b : Nat) (ha : a < 16) (hb : b < 4096) :
    ((4096#64 * BitVec.ofNat 64 a + 1#64 * BitVec.ofNat 64 b) >>> 32#64).setWidth 32 = 0#32 := by
  refine BitVec.eq_of_toNat_eq ?_
  simp [BitVec.toNat_add, BitVec.toNat_mul, Nat.shiftRight_eq_div_pow]
  omega

theorem counter_lo (a b : Nat) (ha : a < 16) (hb : b < 4096) :
    (4096#64 * BitVec.ofNat 64 a + 1#64 * BitVec.ofNat 64 b).setWidth 32 = BitVec.ofNat 32 (4096 * a + b) := by
  refine BitVec.eq_of_toNat_eq ?_
  simp [BitVec.toNat_add, BitVec.toNat_mul]

set_option maxRecDepth 100000 in
set_option maxHeartbeats 0 in
/-- The two words before the first group: zero, and the counter of the place with the second key word added. -/
theorem start (i : S16x4096.Idx) :
    state0 (upto ops V 41) i = (0#32 + 0#32, BitVec.ofNat 32 (4096 * (i 0).val + (i 1).val) + 42#32) := by
  refine Prod.ext ?_ ?_
  · show (upto ops V 41 (Proc.devRef .tc main_call0_call0_v3) : Words) i = _
    after_reads_at
    after_reads_at
    exact congrArg (· + 0#32) (counter_hi (i 0).val (i 1).val (i 0).isLt (i 1).isLt)
  · show (upto ops V 41 (Proc.devRef .tc main_call0_call0_v5) : Words) i = _
    after_reads_at
    after_reads_at
    exact congrArg (· + 42#32) (counter_lo (i 0).val (i 1).val (i 0).isLt (i 1).isLt)

set_option maxRecDepth 100000 in
set_option maxHeartbeats 0 in
theorem last_xor (W : Valuation τ sig (Elt Ideal)) (i : S16x4096.Idx) :
    (after (seg 256 1) W (Proc.devRef .tc main_call0_v20) : Words) i = (state5 W i).1 ^^^ (state5 W i).2 := by
  after_reads_at
  rfl

/-- The reference's random words: at each place, the word of its counter. -/
theorem words_at (i : S16x4096.Idx) :
    (upto ops V 257 (Proc.devRef .tc main_call0_v20) : Words) i = word (BitVec.ofNat 32 (4096 * (i 0).val + (i 1).val)) := by
  have k0 := keys V 41 (by omega)
  have k1 := keys V 84 (by omega)
  have k2 := keys V 127 (by omega)
  have k3 := keys V 170 (by omega)
  have k4 := keys V 213 (by omega)
  have s1 := group0 (upto ops V 41) i
  have s2 := group1 (upto ops V 84) i
  have s3 := group2 (upto ops V 127) i
  have s4 := group3 (upto ops V 170) i
  have s5 := group4 (upto ops V 213) i
  rw [← upto_add V 41 43, k0.2.1, k0.2.2, start V i] at s1
  rw [← upto_add V 84 43, k1.2.2, k1.1, s1] at s2
  rw [← upto_add V 127 43, k2.1, k2.2.1, s2] at s3
  rw [← upto_add V 170 43, k3.2.1, k3.2.2, s3] at s4
  rw [← upto_add V 213 43, k4.2.2, k4.1, s4] at s5
  rw [upto_add V 256 1, last_xor, s5]
  rfl

end Reference

/-! ## The words as numbers -/

theorem mixN_eq {α : Sort _} (r : Nat) (x : BitVec 32 × BitVec 32) (k : Nat → Nat → α) :
    mixN r x.1.toNat x.2.toNat k = k (mix r x).1.toNat (mix r x).2.toNat := by
  unfold mixN
  rw [force_eq, force_eq]
  congr 1

theorem injectN_eq {α : Sort _} (a b c : BitVec 32) (x : BitVec 32 × BitVec 32) (k : Nat → Nat → α) :
    injectN a.toNat (b + c).toNat x.1.toNat x.2.toNat k = k (inject a b c x).1.toNat (inject a b c x).2.toNat := by
  unfold injectN
  rw [force_eq, force_eq]
  simp only [inject, BitVec.add_assoc x.2 b c]
  rw [BitVec.toNat_add, BitVec.toNat_add x.2]
  rfl

theorem fourN_eq {α : Sort _} (r₁ r₂ r₃ r₄ : Nat) (a b c : BitVec 32) (x : BitVec 32 × BitVec 32) (k : Nat → Nat → α) :
    fourN r₁ r₂ r₃ r₄ a.toNat (b + c).toNat x.1.toNat x.2.toNat k
      = k (four r₁ r₂ r₃ r₄ a b c x).1.toNat (four r₁ r₂ r₃ r₄ a b c x).2.toNat := by
  unfold fourN four
  rw [mixN_eq, mixN_eq, mixN_eq, mixN_eq, injectN_eq]

/-- The word of a counter, computed on numbers. -/
theorem word_toNat (n : BitVec 32) : (word n).toNat = wordN n.toNat := by
  unfold wordN word
  have h0 := injectN_eq (α := Nat) 0#32 42#32 0#32 (0#32, n)
  have h1 := fourN_eq (α := Nat) 13 15 26 6 42#32 466689008#32 1#32
  have h2 := fourN_eq (α := Nat) 17 29 16 24 466689008#32 0#32 2#32
  have h3 := fourN_eq (α := Nat) 13 15 26 6 0#32 42#32 3#32
  have h4 := fourN_eq (α := Nat) 17 29 16 24 42#32 466689008#32 4#32
  have h5 := fourN_eq (α := Nat) 13 15 26 6 466689008#32 0#32 5#32
  have e : inject 0#32 42#32 0#32 (0#32, n) = (0#32 + 0#32, n + 42#32) := by
    unfold inject; simp
  rw [e] at h0
  refine Eq.trans ?_ (h0 _).symm
  refine Eq.trans ?_ (h1 _ _).symm
  refine Eq.trans ?_ (h2 _ _).symm
  refine Eq.trans ?_ (h3 _ _).symm
  refine Eq.trans ?_ (h4 _ _).symm
  refine Eq.trans ?_ (h5 _ _).symm
  exact BitVec.toNat_xor _ _

end Cert.Proof
end
-- ==== Proof.RefScore.lean ====
/-
  The reference's score of a position and the comparison its sort makes. A random word's upper 23 bits, put under the
  exponent of one and less one, denote those bits over 2 ^ 23; so a score, negated, compares as the bits do, backwards. A
  position at or past its sequence's length has minus infinity for its score and so comes after all others.
-/
module

public import proofs.«01_k».proof.Proof.RefBits
public import Idealize.ShloMosaic.Lib.IdealHost
@[expose] public section

noncomputable section

namespace Cert.Proof.Reference

open Idealize.ShloMosaic

/-- The upper 23 bits of a word. -/
def high (w : BitVec 32) : ℕ := w.toNat >>> 9

theorem high_lt (w : BitVec 32) : high w < 2 ^ 23 := by
  unfold high
  rw [Nat.shiftRight_eq_div_pow]
  have := w.isLt
  omega

/-- The word with the upper bits of `w` under the exponent of one. -/
theorem under_one (w : BitVec 32) :
    (IntOp.ori (IntOp.shrui .host w 9#32) 1065353216#32 : BitVec 32).toNat = 2 ^ 23 * 127 + high w := by
  have hs : (IntOp.shrui .host w 9#32 : BitVec 32).toNat = high w := by
    show (w >>> (9#32).toNat).toNat = _
    rw [BitVec.toNat_ushiftRight]
    rfl
  show ((IntOp.shrui .host w 9#32 : BitVec 32) ||| 1065353216#32).toNat = _
  rw [BitVec.toNat_or, hs, Nat.two_pow_add_eq_or_of_lt (high_lt w), Nat.or_comm]
  rfl

/-- What a word with the exponent of one denotes. -/
theorem ofBits_under_one (b : BitVec 32) (f : ℕ) (hf : f < 2 ^ 23) (hb : b.toNat = 2 ^ 23 * 127 + f) :
    (Ideal.ofBits .f32 b : EReal) = ((1 + (f : ℝ) / 2 ^ 23 : ℝ) : EReal) := by
  have h1 : (b.extractLsb' 31 1 : BitVec 1) = 0#1 := by
    apply BitVec.eq_of_toNat_eq
    rw [BitVec.extractLsb'_toNat, hb, Nat.shiftRight_eq_div_pow]
    simp
    omega
  have h2 : (b.extractLsb' 23 8).toNat = 127 := by
    rw [BitVec.extractLsb'_toNat, hb, Nat.shiftRight_eq_div_pow]
    omega
  have h3 : (b.extractLsb' 0 23).toNat = f := by
    rw [BitVec.extractLsb'_toNat, hb, Nat.shiftRight_zero]
    omega
  show Ideal.ieee 8 23 b = _
  unfold Ideal.ieee
  simp only [Nat.reduceAdd, h1, h2, h3]
  rw [if_neg (by norm_num), if_neg (by norm_num)]
  refine congrArg Real.toEReal ?_
  rw [if_neg (by decide)]
  norm_num
  ring

/-- The score the reference draws from a word. -/
theorem score_eq (w : BitVec 32) :
    FloatOps.maximumf (F := Ideal) (φ := .f32) (FloatOps.ofBits .f32 0#32)
        (FloatOps.addf
          (FloatOps.mulf
            (FloatOps.subf
              (FloatOps.ofBits .f32 (IntOp.ori (IntOp.shrui .host w 9#32) 1065353216#32))
              (FloatOps.ofBits .f32 1065353216#32))
            (FloatOps.subf (FloatOps.ofBits .f32 1065353216#32) (FloatOps.ofBits .f32 0#32)))
          (FloatOps.ofBits .f32 0#32))
      = (((high w : ℝ) / 2 ^ 23 : ℝ) : EReal) := by
  show max (Ideal.ofBits .f32 0#32)
    ((Ideal.ofBits .f32 (IntOp.ori (IntOp.shrui .host w 9#32) 1065353216#32) - Ideal.ofBits .f32 1065353216#32)
      * (Ideal.ofBits .f32 1065353216#32 - Ideal.ofBits .f32 0#32) + Ideal.ofBits .f32 0#32) = _
  rw [Ideal.ofBits_zero_f32, Ideal.ofBits_one_f32, ofBits_under_one _ _ (high_lt w) (under_one w), sub_zero, mul_one,
    add_zero, show (1 : EReal) = ((1 : ℝ) : EReal) by norm_cast, ← EReal.coe_sub, add_sub_cancel_left]
  exact max_eq_right (EReal.coe_nonneg.mpr (by positivity))

/-- Seven over ten. -/
theorem ofBits_seven : (Ideal.ofBits .f32 1088421888#32 : EReal) = ((7 : ℝ) : EReal) := by
  simp [Ideal.ofBits, Ideal.ieee, -EReal.coe_mul]; norm_num

theorem ofBits_ten : (Ideal.ofBits .f32 1092616192#32 : EReal) = ((10 : ℝ) : EReal) := by
  simp [Ideal.ofBits, Ideal.ieee, -EReal.coe_mul]; norm_num

theorem ofBits_low : (Ideal.ofBits .f32 4286578688#32 : EReal) = ⊥ := by
  simp [Ideal.ofBits, Ideal.ieee]

/-- How many positions of a sequence of a given length are masked: seven tenths of them, rounded down. -/
theorem masked_eq (s : BitVec 32) (hs : s.toNat < 4096) :
    FloatOps.fptosi (F := Ideal) (φ := .f32) 32
        (FloatOps.hostUnary .floor
          (FloatOps.mulf (FloatOps.hostDivf (FloatOps.ofBits .f32 1088421888#32) (FloatOps.ofBits .f32 1092616192#32))
            (FloatOps.sitofp .f32 s)))
      = BitVec.ofNat 32 (7 * s.toNat / 10) := by
  have hi : s.toInt = (s.toNat : ℤ) := BitVec.toInt_eq_toNat_of_lt (by omega)
  have hd : Ideal.div ((7 : ℝ) : EReal) ((10 : ℝ) : EReal) = ((7 / 10 : ℝ) : EReal) := by
    unfold Ideal.div
    rw [if_neg (by norm_num), ← EReal.coe_inv, ← EReal.coe_mul, div_eq_mul_inv]
  show Ideal.fptosi 32 (Ideal.liftRound Int.floor
    (Ideal.div (Ideal.ofBits .f32 1088421888#32) (Ideal.ofBits .f32 1092616192#32) * ((s.toInt : ℝ) : EReal))) = _
  rw [ofBits_seven, ofBits_ten, hd, hi, ← EReal.coe_mul]
  have hf : ⌊(7 / 10 : ℝ) * ((s.toNat : ℤ) : ℝ)⌋ = ((7 * s.toNat / 10 : ℕ) : ℤ) := by
    have h1 : ((10 * (7 * s.toNat / 10) : ℕ) : ℝ) ≤ ((7 * s.toNat : ℕ) : ℝ) := Nat.cast_le.mpr (by omega)
    have h2 : ((7 * s.toNat : ℕ) : ℝ) < ((10 * (7 * s.toNat / 10) + 10 : ℕ) : ℝ) := Nat.cast_lt.mpr (by omega)
    generalize 7 * s.toNat / 10 = q at h1 h2
    push_cast at h1 h2
    rw [Int.floor_eq_iff]
    push_cast
    constructor <;> linarith
  show Ideal.fptosi 32 (((⌊(7 / 10 : ℝ) * ((s.toNat : ℤ) : ℝ)⌋ : ℝ)) : EReal) = _
  rw [hf]
  unfold Ideal.fptosi
  show BitVec.ofInt 32 (max _ (min _ (if 0 ≤ _ then _ else _))) = _
  rw [if_pos (by positivity), Int.floor_intCast, min_eq_right (by norm_num; omega), max_eq_right (by norm_num; omega)]
  exact BitVec.ofInt_natCast 32 _

end Cert.Proof.Reference
end
-- ==== Proof.RefSort.lean ====
/-
  Sorting positions twice gives each position's rank. A stable sort of positions whose order is "smaller key first, and on
  a tie the earlier position first" puts at place `j` the position with exactly `j` positions before it; sorting the
  positions of that result by the position they hold inverts it, so that position `p` then reads how many positions have
  a key smaller than its own.
-/
module

public import Idealize.ShloMosaic.Lib.SortFacts
public import Mathlib.Data.Fintype.Card
public import Mathlib.Data.Fintype.Fin
public import Mathlib.Order.Interval.Finset.Fin
public import Mathlib.Data.Nat.Count
@[expose] public section

namespace Cert.Proof.RefSort

open Idealize.ShloMosaic

variable {n : ℕ}

/-- Inserting a position before later ones, keys increasing, leaves the keys increasing. -/
theorem insert_increasing (before : Fin n → Fin n → Bool) (key : Fin n → ℕ) (hinj : Function.Injective key)
    (h : ∀ a b, a < b → (before b a = true ↔ key b < key a)) (a : Fin n) (l : List (Fin n)) (ha : ∀ b ∈ l, a < b)
    (hl : l.Pairwise fun b c => key b < key c) : (insertBefore before a l).Pairwise fun b c => key b < key c := by
  induction l with
  | nil => exact List.pairwise_singleton _ _
  | cons b l ih =>
    have hab : a < b := ha b List.mem_cons_self
    rw [List.pairwise_cons] at hl
    unfold insertBefore
    split
    · rename_i hb
      have hba := (h a b hab).mp hb
      refine List.pairwise_cons.mpr ⟨fun c hc => ?_, ih (fun c hc => ha c (List.mem_cons_of_mem _ hc)) hl.2⟩
      rcases List.mem_cons.mp ((perm_insertBefore before a l).mem_iff.mp hc) with rfl | hc'
      · exact hba
      · exact hl.1 c hc'
    · rename_i hb
      have hba : key a < key b := by
        have h1 : ¬ key b < key a := fun hlt => hb ((h a b hab).mpr hlt)
        have h2 : key a ≠ key b := fun e => absurd (hinj e) (ne_of_lt hab)
        omega
      refine List.pairwise_cons.mpr ⟨fun c hc => ?_, List.pairwise_cons.mpr hl⟩
      rcases List.mem_cons.mp hc with rfl | hc'
      · exact hba
      · exact hba.trans (hl.1 c hc')

/-- A stable sort of increasing positions has increasing keys. -/
theorem sort_increasing (before : Fin n → Fin n → Bool) (key : Fin n → ℕ) (hinj : Function.Injective key)
    (h : ∀ a b, a < b → (before b a = true ↔ key b < key a)) (l : List (Fin n)) (hl : l.Pairwise (· < ·)) :
    (stableSort before l).Pairwise fun b c => key b < key c := by
  induction l with
  | nil => exact List.Pairwise.nil
  | cons a l ih =>
    rw [List.pairwise_cons] at hl
    unfold stableSort
    exact insert_increasing before key hinj h a _ (fun b hb => hl.1 b ((perm_stableSort before l).mem_iff.mp hb)) (ih hl.2)

/-- The sources of a stable sort have increasing keys. -/
theorem from_increasing (before : Fin n → Fin n → Bool) (key : Fin n → ℕ) (hinj : Function.Injective key)
    (h : ∀ a b, a < b → (before b a = true ↔ key b < key a)) :
    StrictMono fun j => key (sortedFrom before j) := by
  intro i j hij
  exact List.pairwise_iff_get.mp (sort_increasing before key hinj h _ (List.pairwise_lt_finRange n)) _ _
    (show i.cast (length_sortPositions n before).symm < j.cast (length_sortPositions n before).symm from hij)

/-- The position at place `j` has exactly `j` positions with a smaller key. -/
theorem from_rank (before : Fin n → Fin n → Bool) (key : Fin n → ℕ) (hinj : Function.Injective key)
    (h : ∀ a b, a < b → (before b a = true ↔ key b < key a)) (j : Fin n) :
    (Finset.univ.filter fun q : Fin n => key q < key (sortedFrom before j)).card = j.val := by
  have hm := from_increasing before key hinj h
  have e : (Finset.univ.filter fun q : Fin n => key q < key (sortedFrom before j))
      = (Finset.Iio j).map ⟨sortedFrom before, sortedFrom_injective before⟩ := by
    ext q
    obtain ⟨i, rfl⟩ := sortedFrom_surjective before q
    simp only [Finset.mem_filter, Finset.mem_univ, true_and, Finset.mem_map, Finset.mem_Iio, Function.Embedding.coeFn_mk]
    constructor
    · exact fun hi => ⟨i, hm.lt_iff_lt.mp hi, rfl⟩
    · rintro ⟨i', hi', e⟩
      rw [← e]
      exact hm hi'
  rw [e, Finset.card_map, Fin.card_Iio]

/-- Sorting the sources by the position they hold gives each position its rank. -/
theorem rank (before again : Fin n → Fin n → Bool) (key : Fin n → ℕ) (hinj : Function.Injective key)
    (h : ∀ a b, a < b → (before b a = true ↔ key b < key a))
    (h' : ∀ a b, again b a = true ↔ (sortedFrom before b).val < (sortedFrom before a).val) (p : Fin n) :
    (sortedFrom again p).val = (Finset.univ.filter fun q : Fin n => key q < key p).card := by
  have hid : sortedFrom before (sortedFrom again p) = p := by
    have h1 := from_rank again (fun j => (sortedFrom before j).val)
      (Fin.val_injective.comp (sortedFrom_injective before)) (fun a b _ => h' a b) p
    refine Fin.ext (Eq.trans ?_ h1)
    have e : (Finset.Iio (sortedFrom before (sortedFrom again p))).card
        = (Finset.univ.filter fun q : Fin n =>
            (sortedFrom before q).val < (sortedFrom before (sortedFrom again p)).val).card := by
      rw [← Finset.card_map ⟨sortedFrom before, sortedFrom_injective before⟩ (s := Finset.univ.filter _)]
      congr 1
      ext q
      obtain ⟨i, rfl⟩ := sortedFrom_surjective before q
      simp only [Finset.mem_filter, Finset.mem_univ, true_and, Finset.mem_map, Finset.mem_Iio,
        Function.Embedding.coeFn_mk]
      constructor
      · exact fun hi => ⟨i, hi, rfl⟩
      · rintro ⟨i', hi', e⟩
        rw [← e]
        exact hi'
    rw [← e, Fin.card_Iio]
  conv_rhs => rw [← hid]
  exact (from_rank before key hinj h _).symm

/-- The rank of position `p` among positions of which only those below `s` count, all others coming last. -/
theorem rank_below (s N : ℕ) (hs : s ≤ n) (k : ℕ → ℕ) (hk : ∀ q, q < n → k q < N) (p : Fin n) (key : Fin n → ℕ)
    (hkey : ∀ q, key q = if q.val < s then k q.val else N + q.val) :
    (p.val < s → (Finset.univ.filter fun q : Fin n => key q < key p).card = Nat.count (fun q => k q < k p.val) s)
      ∧ (¬ p.val < s → s ≤ (Finset.univ.filter fun q : Fin n => key q < key p).card) := by
  constructor
  · intro hp
    rw [Nat.count_eq_card_filter_range]
    symm
    refine Finset.card_bij (fun q hq => ⟨q, by have := (Finset.mem_filter.mp hq).1; have := Finset.mem_range.mp this; omega⟩)
      (fun q hq => ?_) (fun q hq q' hq' e => by simpa using e) (fun q hq => ?_)
    · obtain ⟨hq1, hq2⟩ := Finset.mem_filter.mp hq
      rw [Finset.mem_range] at hq1
      simp only [Finset.mem_filter, Finset.mem_univ, true_and, hkey, hq1, hp, if_true]
      exact hq2
    · simp only [Finset.mem_filter, Finset.mem_univ, true_and, hkey, hp, if_true] at hq
      have hps := hk p.val p.isLt
      by_cases hqs : q.val < s
      · rw [if_pos hqs] at hq
        exact ⟨q.val, Finset.mem_filter.mpr ⟨Finset.mem_range.mpr hqs, hq⟩, rfl⟩
      · rw [if_neg hqs] at hq
        omega
  · intro hp
    have hsub : (Finset.univ.filter fun q : Fin n => q.val < s) ⊆ Finset.univ.filter fun q : Fin n => key q < key p := by
      intro q hq
      simp only [Finset.mem_filter, Finset.mem_univ, true_and] at hq ⊢
      rw [hkey, hkey, if_pos hq, if_neg hp]
      have := hk q.val q.isLt
      omega
    refine le_trans (le_of_eq ?_) (Finset.card_le_card hsub)
    have e : (Finset.range s).card = (Finset.univ.filter fun q : Fin n => q.val < s).card :=
      Finset.card_bij (fun q hq => ⟨q, by have := Finset.mem_range.mp hq; omega⟩)
        (fun q hq => by simpa using Finset.mem_range.mp hq) (fun q hq q' hq' e => by simpa using e)
        (fun q hq => ⟨q.val, by simpa using hq, rfl⟩)
    rw [← e, Finset.card_range]

end Cert.Proof.RefSort
end
-- ==== Proof.RefValue.lean ====
/-
  The reference's result at a position: a position below its sequence's length is masked when fewer than seven tenths of
  the length's positions have a smaller key, and every other position keeps its token.
-/
module

public import proofs.«01_k».proof.Proof.RefScore
public import proofs.«01_k».proof.Proof.RefSort
@[expose] public section

noncomputable section

namespace Cert.Proof.Reference

open Idealize.ShloMosaic Idealize.SL.Sem StableHlo
open Cert.ReferenceIdeal Cert.ReferenceIdeal.Gen

/-- The comparison of the sort is that of the scores. -/
theorem comparator_eq (l r : Ideal .f32 × BitVec 32) :
    comparator_f32_i32_d1 (F := Ideal) l r = BitVec.ofBool (decide ((l.1 : EReal) < r.1)) := by
  have hc : ∀ x : EReal, Scalar.select (Ideal.cmp .une x x) (Ideal.ofBits .f32 0x7FC00000#32)
      (Scalar.select (Ideal.cmp .oeq x (Ideal.ofBits .f32 0#32)) (Ideal.ofBits .f32 0#32) x) = x := by
    intro x
    rw [Ideal.ofBits_zero_f32]
    by_cases h : x = 0 <;> simp [Ideal.cmp, Scalar.select, h]
  show Ideal.cmp .olt (Scalar.select (Ideal.cmp .une l.1 l.1) (Ideal.ofBits .f32 0x7FC00000#32)
      (Scalar.select (Ideal.cmp .oeq l.1 (Ideal.ofBits .f32 0#32)) (Ideal.ofBits .f32 0#32) l.1))
    (Scalar.select (Ideal.cmp .une r.1 r.1) (Ideal.ofBits .f32 0x7FC00000#32)
      (Scalar.select (Ideal.cmp .oeq r.1 (Ideal.ofBits .f32 0#32)) (Ideal.ofBits .f32 0#32) r.1)) = _
  rw [hc, hc]
  rfl

/-- Whether one small number is below another, as the words compare. -/
theorem slt_iff (a b : ℕ) (ha : a < 2 ^ 31) (hb : b < 2 ^ 31) :
    (IntOp.cmpi .slt (BitVec.ofNat 32 a) (BitVec.ofNat 32 b) : BitVec 1) = BitVec.ofBool (decide (a < b)) := by
  show BitVec.ofBool (BitVec.slt _ _) = _
  congr 1
  rw [BitVec.slt_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  simp

/-- The tokens, and the lengths, as the reference finds them. -/
abbrev tokens (V : Valuation τ sig (Elt Ideal)) : S16x4096.Idx → BitVec 32 := V (Proc.devRef .tc main_arg0)
abbrev lengths (V : Valuation τ sig (Elt Ideal)) : S16.Idx → BitVec 32 := V (Proc.devRef .tc main_arg1)

/-- The number drawn for a position. -/
abbrev drawn (i : S16x4096.Idx) : BitVec 32 := word (BitVec.ofNat 32 (4096 * (i 0).val + (i 1).val))

/-- A position's score, negated. -/
def scoreAt (s : ℕ) (i : S16x4096.Idx) : EReal :=
  if (i 1).val < s then ((-((high (drawn i) : ℝ) / 2 ^ 23) : ℝ) : EReal) else ⊤

set_option maxRecDepth 100000 in
set_option maxHeartbeats 0 in
theorem scores_read (W : Valuation τ sig (Elt Ideal)) (i : S16x4096.Idx) :
    (after (seg 257 28) W (Proc.devRef .tc main_v15) : S16x4096.Idx → Ideal .f32) i
      = FloatOps.hostNegf (F := Ideal) (φ := .f32)
          (Scalar.select (IntOp.cmpi .slt (BitVec.ofNat 32 (i 1).val) (lengths W (ix1 (i 0))))
            (FloatOps.maximumf ((W (Proc.devRef .tc main_call0_v2) : S1x1.Idx → Ideal .f32) (ix2 0 0))
              (FloatOps.addf
                (FloatOps.mulf
                  (FloatOps.subf
                    (FloatOps.ofBits .f32
                      (IntOp.ori (IntOp.shrui .host ((W (Proc.devRef .tc main_call0_v20) : Words) i) 9#32) 1065353216#32))
                    (FloatOps.ofBits .f32 1065353216#32))
                  (FloatOps.subf ((W (Proc.devRef .tc main_call0_v3) : S1x1.Idx → Ideal .f32) (ix2 0 0))
                    ((W (Proc.devRef .tc main_call0_v2) : S1x1.Idx → Ideal .f32) (ix2 0 0))))
                ((W (Proc.devRef .tc main_call0_v2) : S1x1.Idx → Ideal .f32) (ix2 0 0))))
            (FloatOps.ofBits .f32 4286578688#32)) := by
  after_reads_at
  rfl

set_option maxRecDepth 100000 in
set_option maxHeartbeats 0 in
theorem low_read (V : Valuation τ sig (Elt Ideal)) (i : S1x1.Idx) :
    (upto ops V 257 (Proc.devRef .tc main_call0_v2) : S1x1.Idx → Ideal .f32) i = FloatOps.ofBits (F := Ideal) .f32 0#32 := by
  after_reads_at
  rfl

set_option maxRecDepth 100000 in
set_option maxHeartbeats 0 in
theorem top_read (V : Valuation τ sig (Elt Ideal)) (i : S1x1.Idx) :
    (upto ops V 257 (Proc.devRef .tc main_call0_v3) : S1x1.Idx → Ideal .f32) i = FloatOps.ofBits (F := Ideal) .f32 1065353216#32 := by
  after_reads_at
  rfl

set_option maxRecDepth 100000 in
set_option maxHeartbeats 0 in
theorem lengths_read (V : Valuation τ sig (Elt Ideal)) (i : S16.Idx) : lengths (upto ops V 257) i = lengths V i := by
  unfold lengths
  after_reads_at
  try rfl

set_option maxRecDepth 100000 in
set_option maxHeartbeats 0 in
theorem lengths_later (V : Valuation τ sig (Elt Ideal)) (i : S16.Idx) : lengths (upto ops V 285) i = lengths V i := by
  unfold lengths
  after_reads_at
  try rfl

set_option maxRecDepth 100000 in
set_option maxHeartbeats 0 in
theorem tokens_later (V : Valuation τ sig (Elt Ideal)) (i : S16x4096.Idx) : tokens (upto ops V 285) i = tokens V i := by
  unfold tokens
  after_reads_at
  try rfl

/-- What the reference sorts by. -/
theorem scores_at (V : Valuation τ sig (Elt Ideal)) (i : S16x4096.Idx) (hs : (lengths V (ix1 (i 0))).toNat < 4096) :
    (upto ops V 285 (Proc.devRef .tc main_v15) : S16x4096.Idx → Ideal .f32) i
      = scoreAt (lengths V (ix1 (i 0))).toNat i := by
  rw [show (285 : ℕ) = 257 + 28 from rfl, upto_add V 257 28, scores_read, low_read, top_read, words_at, score_eq,
    lengths_read]
  have h1 : (i 1).val < 4096 := (i 1).isLt
  have h2 : lengths V (ix1 (i 0)) = BitVec.ofNat 32 (lengths V (ix1 (i 0))).toNat := by simp
  rw [h2, slt_iff _ _ (by omega) (by omega), ← h2]
  show -(Scalar.select _ _ (Ideal.ofBits .f32 4286578688#32)) = _
  rw [ofBits_low]
  unfold scoreAt
  by_cases h : (i 1).val < (lengths V (ix1 (i 0))).toNat
  · simp only [h, decide_true, if_true, Scalar.select]
    exact (EReal.coe_neg _).symm
  · simp only [h, decide_false, if_false, Scalar.select]
    exact EReal.neg_bot

set_option maxRecDepth 100000 in
set_option maxHeartbeats 0 in
theorem result_read (W : Valuation τ sig (Elt Ideal)) (i : S16x4096.Idx) :
    (after (ops.drop 285) W (Proc.devRef .tc main_v27) : S16x4096.Idx → BitVec 32) i
      = Scalar.select
          (IntOp.cmpi .slt
            ((Host.sort2 S16x4096 1 comparator_i32_i32_d1
              (Host.sort2 S16x4096 1 (comparator_f32_i32_d1 (F := Ideal)) (W (Proc.devRef .tc main_v15) : S16x4096.Idx → Ideal .f32)
                (iotaInDim S16x4096 32 1)).2
              (iotaInDim S16x4096 32 1)).2 i)
            (FloatOps.fptosi (F := Ideal) (φ := .f32) 32
              (FloatOps.hostUnary .floor
                (FloatOps.mulf (FloatOps.hostDivf (FloatOps.ofBits .f32 1088421888#32) (FloatOps.ofBits .f32 1092616192#32))
                  (FloatOps.sitofp .f32 (lengths W (ix1 (i 0))))))))
          50000#32 (tokens W i) := by
  after_reads_at

/-- The entry of row `i 0` at column `k`. -/
abbrev at' (i : S16x4096.Idx) (k : Fin 4096) : S16x4096.Idx := Shape.Idx.along i (1 : Fin 2) k

theorem at'_one (i : S16x4096.Idx) (k : Fin 4096) : at' i k 1 = k := Function.update_self ..
theorem at'_zero (i : S16x4096.Idx) (k : Fin 4096) : at' i k 0 = i 0 := Function.update_of_ne (by decide) ..
theorem at'_at' (i : S16x4096.Idx) (k k' : Fin 4096) : at' (at' i k) k' = at' i k' := Function.update_idem ..
theorem at'_self (i : S16x4096.Idx) : at' i (i 1) = i := Function.update_eq_self ..

/-- Whether column `k` of a row sorts before column `k'`. -/
def before (X : S16x4096.Idx → EReal) (i : S16x4096.Idx) (k k' : Fin 4096) : Bool :=
  BitVec.ofBool (decide (X (at' i k) < X (at' i k'))) == 1#1

/-- Whether the position sorted to place `k` is below the one sorted to place `k'`. -/
def again (X : S16x4096.Idx → EReal) (i : S16x4096.Idx) (k k' : Fin 4096) : Bool :=
  BitVec.ofBool (decide ((sortedFrom (before X i) k).val < (sortedFrom (before X i) k').val)) == 1#1

/-- Sorting scores with their positions. -/
theorem sort_read (X : S16x4096.Idx → EReal) (i : S16x4096.Idx) :
    (Host.sort2 S16x4096 1 (comparator_f32_i32_d1 (F := Ideal)) X (iotaInDim S16x4096 32 1)).2 i
      = BitVec.ofNat 32 (sortedFrom (before X i) (i 1)).val := by
  unfold Host.sort2
  rw [dif_pos (by decide)]
  simp only [comparator_eq]
  exact congrArg (fun z : Fin 4096 => BitVec.ofNat 32 z.val) (at'_one i (sortedFrom (before X i) (i 1)))

/-- Sorting those positions again. -/
theorem sort_again (X : S16x4096.Idx → EReal) (i : S16x4096.Idx) :
    (Host.sort2 S16x4096 1 comparator_i32_i32_d1
      (Host.sort2 S16x4096 1 (comparator_f32_i32_d1 (F := Ideal)) X (iotaInDim S16x4096 32 1)).2
      (iotaInDim S16x4096 32 1)).2 i
      = BitVec.ofNat 32 (sortedFrom (again X i) (i 1)).val := by
  have hb : ∀ k : Fin 4096, before X (at' i k) = before X i := by
    intro k
    funext a b
    unfold before
    rw [at'_at', at'_at']
  generalize hY : (Host.sort2 S16x4096 1 (comparator_f32_i32_d1 (F := Ideal)) X (iotaInDim S16x4096 32 1)).2 = Y
  have hv : ∀ k : Fin 4096, Y (at' i k) = BitVec.ofNat 32 (sortedFrom (before X i) k).val := by
    intro k
    rw [← hY, sort_read, hb, at'_one]
  unfold Host.sort2
  rw [dif_pos (by decide)]
  refine (congrArg (fun z : Fin 4096 => BitVec.ofNat 32 z.val) (at'_one i (sortedFrom (fun k k' : Fin 4096 =>
    (IntOp.cmpi .slt (Y (at' i k)) (Y (at' i k')) : BitVec 1) == 1#1) (i 1)))).trans ?_
  refine congrArg (fun f => BitVec.ofNat 32 (sortedFrom f (i 1)).val) (?_ : (fun k k' : Fin 4096 =>
    (IntOp.cmpi .slt (Y (at' i k)) (Y (at' i k')) : BitVec 1) == 1#1) = again X i)
  funext k k'
  have h1 := (sortedFrom (before X i) k).isLt
  have h2 := (sortedFrom (before X i) k').isLt
  rw [hv, hv, slt_iff _ _ (by omega) (by omega)]
  rfl

/-- The key a position of a row sorts by: those past the sequence's length come last. -/
def keyAt (r s : ℕ) (q : Fin 4096) : ℕ := if q.val < s then keyN r q.val else 2 ^ 40 + q.val

theorem keyN_eq (r p : ℕ) : keyN r p = (8388607 - wordN (4096 * r + p) >>> 9) * 4096 + p := rfl

theorem keyN_lt (r p : ℕ) (hp : p < 4096) : keyN r p < 2 ^ 40 := by
  rw [keyN_eq]
  omega

theorem keyAt_injective (r s : ℕ) : Function.Injective (keyAt r s) := by
  intro a b e
  have ha := a.isLt
  have hb := b.isLt
  have hka := keyN_lt r a.val ha
  have hkb := keyN_lt r b.val hb
  apply Fin.ext
  unfold keyAt at e
  split at e <;> split at e
  · rw [keyN_eq, keyN_eq] at e
    omega
  · omega
  · omega
  · omega

/-- The upper bits of the number drawn for a position. -/
theorem high_drawn (i : S16x4096.Idx) : high (drawn i) = wordN (4096 * (i 0).val + (i 1).val) >>> 9 := by
  have h0 : (i 0).val < 16 := (i 0).isLt
  have h1 : (i 1).val < 4096 := (i 1).isLt
  unfold high drawn
  rw [word_toNat, BitVec.toNat_ofNat, Nat.mod_eq_of_lt (by omega)]

/-- One position of a row sorts before an earlier one exactly when its key is the smaller. -/
theorem before_iff (X : S16x4096.Idx → EReal) (i : S16x4096.Idx) (s : ℕ) (hX : ∀ k, X (at' i k) = scoreAt s (at' i k))
    (a b : Fin 4096) (hab : a < b) :
    before X i b a = true ↔ keyAt (i 0).val s b < keyAt (i 0).val s a := by
  have ha := a.isLt
  have hb := b.isLt
  have hab' : a.val < b.val := hab
  have e : before X i b a = true ↔ scoreAt s (at' i b) < scoreAt s (at' i a) := by
    unfold before
    rw [hX, hX]
    by_cases h : scoreAt s (at' i b) < scoreAt s (at' i a) <;> simp [h]
  rw [e]
  have hka := keyN_lt (i 0).val a.val ha
  have hkb := keyN_lt (i 0).val b.val hb
  unfold scoreAt keyAt
  rw [high_drawn, high_drawn, at'_one, at'_one, at'_zero, at'_zero]
  have hH : ∀ p : Fin 4096, wordN (4096 * (i 0).val + p.val) >>> 9 < 2 ^ 23 := by
    intro p
    have h := high_lt (drawn (at' i p))
    rwa [high_drawn, at'_one, at'_zero] at h
  have hHa := hH a
  have hHb := hH b
  by_cases h1 : b.val < s
  · have h2 : a.val < s := by omega
    rw [if_pos h1, if_pos h2, if_pos h1, if_pos h2, keyN_eq, keyN_eq, EReal.coe_lt_coe_iff]
    generalize wordN (4096 * (i 0).val + a.val) >>> 9 = x at *
    generalize wordN (4096 * (i 0).val + b.val) >>> 9 = y at *
    have : (-((y : ℝ) / 2 ^ 23) < -((x : ℝ) / 2 ^ 23)) ↔ x < y := by
      rw [neg_lt_neg_iff, div_lt_div_iff_of_pos_right (by positivity), Nat.cast_lt]
    rw [this]
    omega
  · rw [if_neg h1, if_neg h1]
    have hf : ¬ (⊤ : EReal) < (if a.val < s then ((-((wordN (4096 * (i 0).val + a.val) >>> 9 : ℕ) / 2 ^ 23 : ℝ) : ℝ) : EReal) else ⊤) :=
      not_top_lt
    have hg : ¬ 2 ^ 40 + b.val < (if a.val < s then keyN (i 0).val a.val else 2 ^ 40 + a.val) := by
      split <;> omega
    exact ⟨fun h => absurd h hf, fun h => absurd h hg⟩

/-- The reference's result at a position. -/
theorem value (V : Valuation τ sig (Elt Ideal)) (i : S16x4096.Idx) (hs : (lengths V (ix1 (i 0))).toNat < 4096) :
    (after ops V (Proc.devRef .tc main_v27) : S16x4096.Idx → BitVec 32) i
      = if (i 1).val < (lengths V (ix1 (i 0))).toNat
          ∧ Nat.count (fun q => keyN (i 0).val q < keyN (i 0).val (i 1).val) (lengths V (ix1 (i 0))).toNat
            < 7 * (lengths V (ix1 (i 0))).toNat / 10 then 50000#32 else tokens V i := by
  rw [after_eq V 285, result_read, lengths_later, tokens_later, masked_eq _ hs]
  generalize hX : (upto ops V 285 (Proc.devRef .tc main_v15) : S16x4096.Idx → Ideal .f32) = X
  have hX' : ∀ k, X (at' i k) = scoreAt (lengths V (ix1 (i 0))).toNat (at' i k) := by
    intro k
    rw [← hX, scores_at V (at' i k) (by rw [at'_zero]; exact hs), at'_zero]
  generalize (lengths V (ix1 (i 0))).toNat = s at hs hX'
  rw [sort_again]
  have hr := RefSort.rank (before X i) (again X i) (keyAt (i 0).val s) (keyAt_injective _ _)
    (before_iff X i s hX') (fun a b => by
      unfold again
      by_cases h : (sortedFrom (before X i) b).val < (sortedFrom (before X i) a).val <;> simp [h]) (i 1)
  have hlt := (sortedFrom (again X i) (i 1)).isLt
  rw [slt_iff _ _ (by omega) (by omega)]
  obtain ⟨hin, hout⟩ := RefSort.rank_below s (2 ^ 40) (by omega) (keyN (i 0).val) (fun q hq => keyN_lt _ q hq) (i 1)
    (keyAt (i 0).val s) (fun q => rfl)
  rw [← hr] at hin hout
  by_cases hp : (i 1).val < s
  · rw [hin hp]
    by_cases hm : Nat.count (fun q => keyN (i 0).val q < keyN (i 0).val (i 1).val) s < 7 * s / 10
    · simp [hp, hm, Scalar.select]
    · simp [hm, Scalar.select]
  · have := hout hp
    have hm : ¬ (sortedFrom (again X i) (i 1)).val < 7 * s / 10 := by omega
    simp [hp, hm, Scalar.select]

end Cert.Proof.Reference
end
-- ==== Proof.RowFacts.lean ====
module

public import proofs.«01_k».proof.Proof.Checks
public import Mathlib.Data.Nat.Count
public import Mathlib.Data.Fintype.EquivFin
public import Mathlib.Order.Monotone.Basic
public import Mathlib.Tactic.Ring

/-! # What a row that passes its check has

Its values order its places as the keys do, and its thresholds admit seven tenths of each beginning. -/

@[expose] public section

namespace Cert.Proof

theorem allBelow_elim {p : Nat → Bool} {n : Nat} (h : allBelow p n = true) :
    ∀ k, k < n → p k = true := by
  induction n with
  | zero => intro k hk; omega
  | succ n ih =>
    have h' : (p n && allBelow p n) = true := h
    rw [Bool.and_eq_true] at h'
    intro k hk
    rcases Nat.lt_succ_iff_lt_or_eq.mp hk with hk | rfl
    · exact ih h'.2 k hk
    · exact h'.1

theorem pack_succ (w : Nat) (f : Nat → Nat) (n : Nat) :
    pack w f (n + 1) = pack w f n + f n * 2 ^ (w * n) := by
  rw [← Nat.shiftLeft_eq]; rfl

theorem digit_eq (w N k : Nat) : digit w N k = N / 2 ^ (w * k) % 2 ^ w := by
  rw [← Nat.shiftRight_eq_div_pow]; rfl

theorem pack_lt (w : Nat) (f : Nat → Nat) (n : Nat) (hf : ∀ k, k < n → f k < 2 ^ w) :
    pack w f n < 2 ^ (w * n) := by
  induction n with
  | zero => exact Nat.pow_pos (by decide)
  | succ n ih =>
    have h1 := ih fun k hk => hf k (by omega)
    have h2 := hf n (by omega)
    rw [pack_succ, Nat.mul_succ, Nat.pow_add]
    generalize 2 ^ (w * n) = A at *
    have : (f n + 1) * A ≤ 2 ^ w * A := Nat.mul_le_mul_right A h2
    rw [Nat.add_mul, Nat.one_mul] at this
    rw [Nat.mul_comm A]
    omega

/-- A packed row gives back its entries. -/
theorem digit_pack (w : Nat) (f : Nat → Nat) (n : Nat) (hf : ∀ k, k < n → f k < 2 ^ w) {k : Nat}
    (hk : k < n) : digit w (pack w f n) k = f k := by
  rw [digit_eq]
  induction n with
  | zero => omega
  | succ n ih =>
    rw [pack_succ]
    rcases Nat.lt_succ_iff_lt_or_eq.mp hk with hk | rfl
    · rw [show f n * 2 ^ (w * n) = 2 ^ (w * k) * (2 ^ w * (f n * 2 ^ (w * (n - k - 1)))) by
          rw [show w * n = w * k + (w + w * (n - k - 1)) by
            obtain ⟨d, rfl⟩ : ∃ d, n = k + 1 + d := ⟨n - k - 1, by omega⟩
            rw [show k + 1 + d - k - 1 = d by omega]; ring]
          rw [Nat.pow_add, Nat.pow_add]; ring]
      rw [Nat.add_mul_div_left _ _ (Nat.pow_pos (by decide)), Nat.add_mul_mod_self_left]
      exact ih (fun k hk => hf k (by omega)) hk
    · rw [Nat.add_mul_div_right _ _ (Nat.pow_pos (by decide)),
        Nat.div_eq_of_lt (pack_lt w f k fun j hj => hf j (by omega)), Nat.zero_add,
        Nat.mod_eq_of_lt (hf k (by omega))]

theorem pack_add (w : Nat) (f g : Nat → Nat) (n : Nat) :
    pack w (fun k => f k + g k) n = pack w f n + pack w g n := by
  induction n with
  | zero => rfl
  | succ n ih => rw [pack_succ, pack_succ, pack_succ, ih]; ring

theorem pack_congr (w : Nat) {f g : Nat → Nat} (n : Nat) (h : ∀ k, k < n → f k = g k) :
    pack w f n = pack w g n := by
  induction n with
  | zero => rfl
  | succ n ih => rw [pack_succ, pack_succ, ih fun k hk => h k (by omega), h n (by omega)]

theorem pack_ones_low (a n : Nat) (h : n ≤ a) : pack 16 (fun k => if a ≤ k then 1 else 0) n = 0 := by
  induction n with
  | zero => rfl
  | succ n ih => rw [pack_succ, ih (by omega), if_neg (by omega)]; simp

theorem pack_ones (a n : Nat) (h : a ≤ n) :
    pack 16 (fun k => if a ≤ k then 1 else 0) n * 65535 + 2 ^ (16 * a) = 2 ^ (16 * n) := by
  induction n with
  | zero => obtain rfl : a = 0 := by omega
            rfl
  | succ n ih =>
    by_cases ha : a ≤ n
    · rw [pack_succ, if_pos ha, Nat.mul_succ 16 n, Nat.pow_add]
      have := ih ha
      rw [← this]
      ring
    · obtain rfl : a = n + 1 := by omega
      rw [pack_ones_low _ _ (Nat.le_refl _)]; simp

theorem onesFrom_eq (a : Nat) (h : a ≤ 4096) :
    onesFrom a = pack 16 (fun k => if a ≤ k then 1 else 0) 4096 := by
  have h1 := pack_ones a 4096 h
  generalize pack 16 (fun k => if a ≤ k then 1 else 0) 4096 = X at *
  have h2 : onesFrom a = (2 ^ (16 * 4096) - 2 ^ (16 * a)) / 65535 := rfl
  rw [h2]
  generalize 2 ^ (16 * 4096) = A at *
  generalize 2 ^ (16 * a) = B at *
  omega

theorem counts_eq (fr : Nat → Nat) (hfr : ∀ p, p < 4096 → fr p < 4096) (s : Nat) (hs : s ≤ 4096) :
    counts (pack 16 fr 4096) s = pack 16 (fun k => Nat.count (fun q => fr q ≤ k) s) 4096 := by
  induction s with
  | zero =>
    refine Eq.symm ((pack_congr 16 (g := fun k => if 4096 ≤ k then 1 else 0) 4096 fun k hk => ?_).trans
      (pack_ones_low 4096 4096 (Nat.le_refl _)))
    rw [if_neg (by omega)]; simp
  | succ s ih =>
    have h1 : counts (pack 16 fr 4096) (s + 1)
        = counts (pack 16 fr 4096) s + onesFrom (digit 16 (pack 16 fr 4096) s) := rfl
    rw [h1, ih (by omega), digit_pack 16 fr 4096 (fun k hk => Nat.lt_trans (hfr k hk) (by decide))
      (by omega), onesFrom_eq _ (Nat.le_of_lt (hfr s (by omega))), ← pack_add]
    refine pack_congr 16 4096 fun k _ => ?_
    rw [Nat.count_succ]

/-- What the check of a row gives: its values are below 4096 and order its places as the keys do; each
    threshold admits seven tenths of the entries before it, or is minus one where that is none. -/
structure RowFacts (fr thr key : Nat → Nat) : Prop where
  lt : ∀ p, p < 4096 → fr p < 4096
  order : ∀ p q, p < 4096 → q < 4096 → (key p < key q ↔ fr p < fr q)
  thr : ∀ s, s < 4096 → (7 * s / 10 = 0 ∧ thr s = 4294967295) ∨
    (thr s < 4096 ∧ Nat.count (fun q => fr q ≤ thr s) s = 7 * s / 10)

theorem RowFacts.of_ok {fr thr key : Nat → Nat} (hkey : ∀ p, p < 4096 → key p < 2 ^ 40)
    (h : rowOk fr thr key = true) : RowFacts fr thr key := by
  unfold rowOk at h
  rw [force_eq, force_eq, force_eq] at h
  simp only [Bool.and_eq_true] at h
  obtain ⟨⟨h1, h2⟩, h3⟩ := h
  have hlt : ∀ p, p < 4096 → fr p < 4096 := fun p hp => by
    have := allBelow_elim h1 p hp
    exact Nat.blt_eq.mp this
  have hF : ∀ {p}, p < 4096 → digit 16 (pack 16 fr 4096) p = fr p := fun hp =>
    digit_pack 16 fr 4096 (fun k hk => Nat.lt_trans (hlt k hk) (by decide)) hp
  have hK : ∀ {p}, p < 4096 → digit 40 (pack 40 key 4096) p = key p := fun hp =>
    digit_pack 40 key 4096 hkey hp
  refine ⟨hlt, ?_, fun s hs => ?_⟩
  · generalize inverse (pack 16 fr 4096) 4096 = I at h2
    have h4 : ∀ k, k < 4096 → digit 16 I k < 4096 ∧ fr (digit 16 I k) = k ∧
        (k < 4095 → key (digit 16 I k) < key (digit 16 I (k + 1))) := by
      have base : ∀ k, k < 4096 → digit 16 I k < 4096 ∧ fr (digit 16 I k) = k ∧
          (k = 4095 ∨ digit 40 (pack 40 key 4096) (digit 16 I k)
            < digit 40 (pack 40 key 4096) (digit 16 I (k + 1))) := fun k hk => by
        have := allBelow_elim h2 k hk
        unfold orderAt at this
        rw [force_eq] at this
        simp only [Bool.and_eq_true, Bool.or_eq_true, Nat.blt_eq, Nat.beq_eq] at this
        obtain ⟨⟨a, b⟩, c⟩ := this
        rw [hF a] at b
        exact ⟨a, b, c⟩
      intro k hk
      obtain ⟨a, b, c⟩ := base k hk
      refine ⟨a, b, fun hk' => ?_⟩
      rcases c with c | c
      · omega
      · rwa [hK a, hK (base (k + 1) (by omega)).1] at c
    have mono : ∀ j k, j < k → k < 4096 → key (digit 16 I j) < key (digit 16 I k) := by
      intro j k hjk
      induction k with
      | zero => omega
      | succ k ih =>
        intro hk
        have step := (h4 k (by omega)).2.2 (by omega)
        rcases Nat.lt_succ_iff_lt_or_eq.mp hjk with hj | rfl
        · exact Nat.lt_trans (ih hj (by omega)) step
        · exact step
    -- the order reaches every place
    have reach : ∀ p, p < 4096 → digit 16 I (fr p) = p := by
      let o : Fin 4096 → Fin 4096 := fun k => ⟨digit 16 I k, (h4 k k.2).1⟩
      let f : Fin 4096 → Fin 4096 := fun p => ⟨fr p, hlt p p.2⟩
      have left : Function.LeftInverse f o := fun k => Fin.ext (h4 k k.2).2.1
      have surj : Function.Surjective o := Finite.injective_iff_surjective.mp left.injective
      intro p hp
      obtain ⟨k, hk⟩ := surj ⟨p, hp⟩
      have hk' : digit 16 I k = p := congrArg Fin.val hk
      rw [← hk', (h4 k k.2).2.1]
    intro p q hp hq
    have hp' := reach p hp
    have hq' := reach q hq
    rcases Nat.lt_trichotomy (fr p) (fr q) with hlt' | heq | hgt
    · refine iff_of_true ?_ hlt'
      have := mono _ _ hlt' (hlt q hq)
      rwa [hp', hq'] at this
    · have : p = q := by rw [← hp', ← hq', heq]
      subst this
      exact iff_of_false (Nat.lt_irrefl _) (Nat.lt_irrefl _)
    · refine iff_of_false ?_ (by omega)
      have := mono _ _ hgt (hlt p hp)
      rw [hp', hq'] at this
      omega
  · have := allBelow_elim h3 s hs
    unfold thrAt at this
    rw [force_eq] at this
    simp only [Bool.and_eq_true, Bool.or_eq_true, Nat.blt_eq, Nat.beq_eq] at this
    rcases this with ⟨a, b⟩ | ⟨a, b⟩
    · exact Or.inl ⟨a, b⟩
    · refine Or.inr ⟨a, ?_⟩
      rw [counts_eq fr hlt s (by omega), digit_pack 16 _ 4096 (fun k _ => ?_) a] at b
      · exact b
      · refine Nat.lt_of_le_of_lt (Nat.count_le _) (Nat.lt_trans hs (by decide))

/-- The threshold's test picks, among the first `s` places, those with fewer than seven tenths of `s`
    places before them in the order of the keys. -/
theorem RowFacts.test {fr thr key : Nat → Nat} (h : RowFacts fr thr key) {s p : Nat} (hs : s < 4096)
    (hp : p < s) :
    (thr s < 4096 ∧ fr p ≤ thr s) ↔ Nat.count (fun q => key q < key p) s < 7 * s / 10 := by
  have hcount : Nat.count (fun q => key q < key p) s = Nat.count (fun q => fr q < fr p) s := by
    rw [Nat.count_eq_card_filter_range, Nat.count_eq_card_filter_range]
    congr 1
    refine Finset.filter_congr fun q hq => ?_
    exact h.order q p (by have := Finset.mem_range.mp hq; omega) (by omega)
  rw [hcount]
  rcases h.thr s hs with ⟨a, b⟩ | ⟨a, b⟩
  · refine iff_of_false (by omega) (by omega)
  · rw [← b]
    refine ⟨fun ⟨_, hle⟩ => ?_, fun hlt => ⟨a, ?_⟩⟩
    · rw [Nat.count_eq_card_filter_range, Nat.count_eq_card_filter_range]
      refine Finset.card_lt_card ?_
      rw [Finset.ssubset_iff_of_subset]
      · exact ⟨p, by simp [hp, hle], by simp⟩
      · intro q hq
        simp only [Finset.mem_filter] at hq ⊢
        exact ⟨hq.1, by omega⟩
    · by_contra hgt
      rw [Nat.count_eq_card_filter_range, Nat.count_eq_card_filter_range] at hlt
      have : ((Finset.range s).filter fun q => fr q ≤ thr s).card
          ≤ ((Finset.range s).filter fun q => fr q < fr p).card := by
        refine Finset.card_le_card fun q hq => ?_
        simp only [Finset.mem_filter] at hq ⊢
        exact ⟨hq.1, by omega⟩
      omega

end Cert.Proof
-- ==== Proof.Equation.lean ====
/-
  The kernel's result is the reference's, where every row of its two tables passes the check: what the kernel reads at a
  position is its rank within the row and its row's threshold at the sequence's length, and a rank at most the threshold
  is a key with fewer than seven tenths of the length below it.
-/
module

public import proofs.«01_k».proof.Proof.Launch
public import proofs.«01_k».proof.Proof.RefValue
public import proofs.«01_k».proof.Proof.RowFacts
@[expose] public section

noncomputable section

namespace Cert.Proof

open Idealize.ShloMosaic Idealize.SL.Sem StableHlo

/-- The table of ranks at a position. -/
theorem rank_entry (i : Cert.KernelIdeal.S16x4096.Idx) : (KernelIdeal.rkT i).toNat = rankN (i 0).val (i 1).val := by
  have h : (Cert.KernelIdeal.S16x4096.rowMajor i).val = Nat.add (Nat.mul 4096 (i 0).val) (i 1).val := by
    rw [Shape.rowMajor_val_two]
    show (i 0).val * 4096 + (i 1).val = 4096 * (i 0).val + (i 1).val
    omega
  exact congrArg (fun n => (Cert.KernelIdeal.lit0t n).toNat) h

/-- The table of thresholds at a row and a length. -/
theorem threshold_entry (r : Fin 16) (w : BitVec 32) (hw : w.toNat < 4096) :
    (KernelIdeal.thAt KernelIdeal.thT r w).toNat = thrN r.val w.toNat := by
  unfold KernelIdeal.thAt
  rw [dif_pos (by omega : w.toNat < 4104)]
  have h : (Cert.KernelIdeal.S16x4104.rowMajor (Shape.pair (d := ![16, 4104]) r ⟨w.toNat, by show w.toNat < 4104; omega⟩)).val
      = Nat.add (Nat.mul 4104 r.val) w.toNat := by
    refine (Shape.rowMajor_pair_val (d := ![16, 4104]) r ⟨w.toNat, _⟩).trans ?_
    show r.val * 4104 + w.toNat = 4104 * r.val + w.toNat
    omega
  exact congrArg (fun n => (Cert.KernelIdeal.lit1t n).toNat) h

/-- A rank's word is at most a threshold's word exactly when the threshold is one of a row and the rank is at most it. -/
theorem sle_iff (a b : BitVec 32) (ha : a.toNat < 4096) (hb : b.toNat = 4294967295 ∨ b.toNat < 4096) :
    a.sle b = true ↔ b.toNat < 4096 ∧ a.toNat ≤ b.toNat := by
  rw [BitVec.sle_eq_decide, decide_eq_true_iff, BitVec.toInt_eq_toNat_cond, BitVec.toInt_eq_toNat_cond]
  split <;> split <;> omega

/-- The kernel's result at a position is the reference's. -/
theorem equation (hrows : ∀ r, r < 16 → RowOk r) (tok : Cert.KernelIdeal.S16x4096.Idx → BitVec 32)
    (len : Cert.KernelIdeal.S16.Idx → BitVec 32) (hlen : ∀ j, (len j).toNat < 4096)
    (V : Valuation Cert.ReferenceIdeal.τ Cert.ReferenceIdeal.sig (Elt Ideal))
    (ht : Reference.tokens V = tok) (hl : Reference.lengths V = len) :
    (after Reference.ops V (Proc.devRef .tc Cert.ReferenceIdeal.main_v27) : Cert.ReferenceIdeal.S16x4096.Idx → BitVec 32)
      = KernelIdeal.outAt tok len KernelIdeal.rkT KernelIdeal.thT := by
  funext i
  have h0 : (i 0).val < 16 := (i 0).isLt
  have h1 : (i 1).val < 4096 := (i 1).isLt
  have hs := hlen (ValueIdx.ix1 (i 0))
  rw [Reference.value V i (by rw [hl]; exact hs), ht, hl]
  have hat : KernelIdeal.at1 (n := 16) (i 0) = ValueIdx.ix1 (i 0) := by
    funext a
    match a with
    | 0 => rfl
  unfold KernelIdeal.outAt
  rw [hat]
  obtain ⟨w, hw⟩ : ∃ w, w = len (ValueIdx.ix1 (i 0)) := ⟨_, rfl⟩
  rw [← hw] at hs
  have hR := RowFacts.of_ok (fun p hp => Reference.keyN_lt (i 0).val p hp) (hrows (i 0).val h0)
  have hrk := rank_entry i
  have hth := threshold_entry (i 0) w hs
  have hle := sle_iff (KernelIdeal.rkT i) (KernelIdeal.thAt KernelIdeal.thT (i 0) w)
    (by rw [hrk]; exact hR.lt _ h1) (by rw [hth]; rcases hR.thr w.toNat hs with h | h <;> [exact .inl h.2; exact .inr h.1])
  rw [hrk, hth] at hle
  have hlt : (BitVec.ofNat 32 (i 1).val).slt w = true ↔ (i 1).val < w.toNat := by
    rw [BitVec.slt_eq_decide, decide_eq_true_iff, BitVec.toInt_eq_toNat_of_lt (by rw [BitVec.toNat_ofNat]; omega),
      BitVec.toInt_eq_toNat_of_lt (by omega), BitVec.toNat_ofNat, Nat.mod_eq_of_lt (by omega)]
    exact Nat.cast_lt
  rw [hw] at hs hle hlt
  exact if_congr ((and_congr_right fun hp => (hR.test hs hp).symm.trans hle.symm).trans (and_congr_left' hlt.symm)) rfl rfl

end Cert.Proof
end
-- ==== Proof.Rows0.lean ====
module

public import proofs.«01_k».proof.Proof.Words

/-! # Rows 0 to 3 of the tables pass their checks -/

@[expose] public section

namespace Cert.Proof

set_option maxHeartbeats 0 in
theorem rows_0 (r : Nat) (h : 0 ≤ r) (h' : r < 4) : RowOk r := by
  obtain rfl | rfl | rfl | rfl : r = 0 ∨ r = 1 ∨ r = 2 ∨ r = 3 := by omega
  all_goals decide +kernel

end Cert.Proof
-- ==== Proof.Rows1.lean ====
module

public import proofs.«01_k».proof.Proof.Rows0

/-! # Rows 4 to 7 of the tables pass their checks -/

@[expose] public section

namespace Cert.Proof

set_option maxHeartbeats 0 in
theorem rows_1 (r : Nat) (h : 4 ≤ r) (h' : r < 8) : RowOk r := by
  obtain rfl | rfl | rfl | rfl : r = 4 ∨ r = 5 ∨ r = 6 ∨ r = 7 := by omega
  all_goals decide +kernel

end Cert.Proof
-- ==== Proof.Rows2.lean ====
module

public import proofs.«01_k».proof.Proof.Rows1

/-! # Rows 8 to 11 of the tables pass their checks -/

@[expose] public section

namespace Cert.Proof

set_option maxHeartbeats 0 in
theorem rows_2 (r : Nat) (h : 8 ≤ r) (h' : r < 12) : RowOk r := by
  obtain rfl | rfl | rfl | rfl : r = 8 ∨ r = 9 ∨ r = 10 ∨ r = 11 := by omega
  all_goals decide +kernel

end Cert.Proof
-- ==== Proof.Rows3.lean ====
module

public import proofs.«01_k».proof.Proof.Rows2

/-! # Rows 12 to 15 of the tables pass their checks -/

@[expose] public section

namespace Cert.Proof

set_option maxHeartbeats 0 in
theorem rows_3 (r : Nat) (h : 12 ≤ r) (h' : r < 16) : RowOk r := by
  obtain rfl | rfl | rfl | rfl : r = 12 ∨ r = 13 ∨ r = 14 ∨ r = 15 := by omega
  all_goals decide +kernel

end Cert.Proof
-- ==== Proof.Algebraic.lean ====
/-
  The value claim: every row of the kernel's tables passes the check, so the kernel and the reference leave the same
  masked tokens, and both hand the lengths through.
-/
module

public import proofs.«01_k».proof.Proof.Frames
public import proofs.«01_k».proof.Proof.Equation
public import proofs.«01_k».proof.Proof.Rows3
@[expose] public section

noncomputable section

namespace Cert.Proof

open Idealize.ShloMosaic Idealize.SL.Sem StableHlo
open Cert.Pre_in_range.Gen Cert.ReferenceIdeal.Gen

/-- Every row of the tables passes the check. -/
theorem rows (r : ℕ) (h : r < 16) : RowOk r := by
  by_cases h1 : r < 4
  · exact rows_0 r (by omega) h1
  by_cases h2 : r < 8
  · exact rows_1 r (by omega) h2
  by_cases h3 : r < 12
  · exact rows_2 r (by omega) h3
  · exact rows_3 r (by omega) h

/-- The idealized kernel and the idealized reference compute the same results. -/
theorem algebraic : Cert.algebraic_KernelIdeal_ReferenceIdeal := by
  intro m g m' g' hpre heq
  have hok := pre_KernelIdeal m hpre
  refine ⟨fun c => KernelIdeal.outV0 m c, fun c => m (KernelIdeal.lenLoc c), ?_, ?_⟩
  · exact (θ_run Cert.KernelIdeal.defs _ _).mono
      (fun _ h c => ⟨(h.1 c).2.2, (h.1 c).2.1, (h.1 c).1, (h.1 c).2.1⟩) (KernelIdeal.run_main (F := Ideal) m g hok)
  · refine θ_run_mono (Reference.run m' g') fun r h c => ⟨(h c Cert.ReferenceIdeal.main_v27).trans ?_,
      ((h c Cert.ReferenceIdeal.main_arg1).trans (Reference.arg1_kept _)).trans (heq c).2,
      (h c Cert.ReferenceIdeal.main_arg0).trans (Reference.arg0_kept _),
      (h c Cert.ReferenceIdeal.main_arg1).trans (Reference.arg1_kept _)⟩
    exact equation rows _ _ (hok c) _ (heq c).1 (heq c).2

end Cert.Proof

end
-- ==== Proof.lean ====
/- The certificate's claims, assembled. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Frames
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  frame_Kernel, frame_KernelIdeal, fun m g _ => Reference.frame m g, fun m g _ => Reference.frame m g, trivial, algebraic⟩

end Cert.Proof

end
